-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_last_scales_finite [hPre_last_scales_finite : Cert.Pre_last_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_last_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_last_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_last_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_last_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_last_scales_finite [hPre_last_scales_finite : Cert.Pre_last_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_last_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_last_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_last_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_last_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_last_scales_finite [hKernelIdeal : Cert.KernelIdeal.Facts] [hPre_last_scales_finite : Cert.Pre_last_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_last_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_last_scales_finite [hReferenceIdeal : Cert.ReferenceIdeal.Facts] [hPre_last_scales_finite : Cert.Pre_last_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_last_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_last_scales_finite [hKernelIdeal : Cert.KernelIdeal.Facts] [hReferenceIdeal : Cert.ReferenceIdeal.Facts] [hPre_last_scales_finite : Cert.Pre_last_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_last_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_last_scales_finite : Cert.Pre_last_scales_finite.Facts),
    quiescent_Kernel (hKernel := hKernel)
    ∧ quiescent_KernelIdeal (hKernelIdeal := hKernelIdeal)
    ∧ quiescent_KernelIdeal_pre_last_scales_finite (hKernelIdeal := hKernelIdeal) (hPre_last_scales_finite := hPre_last_scales_finite)
    ∧ quiescent_ReferenceIdeal (hReferenceIdeal := hReferenceIdeal)
    ∧ quiescent_ReferenceIdeal_pre_last_scales_finite (hReferenceIdeal := hReferenceIdeal) (hPre_last_scales_finite := hPre_last_scales_finite)
    ∧ preserves_Kernel_KernelIdeal
    ∧ algebraic_KernelIdeal_ReferenceIdeal_pre_last_scales_finite (hKernelIdeal := hKernelIdeal) (hReferenceIdeal := hReferenceIdeal) (hPre_last_scales_finite := hPre_last_scales_finite)
-- ==== Pre_last_scales_finite.lean ====
abbrev S2x6144x3456 : Shape := ⟨3, ![2, 6144, 3456]⟩
abbrev S2x6144x27 : Shape := ⟨3, ![2, 6144, 27]⟩
abbrev S3456x4608 : Shape := ⟨2, ![3456, 4608]⟩
abbrev S27x36 : Shape := ⟨2, ![27, 36]⟩
abbrev S4608 : Shape := ⟨1, ![4608]⟩
abbrev S2x6144x1 : Shape := ⟨3, ![2, 6144, 1]⟩
abbrev S1x36 : Shape := ⟨2, ![1, 36]⟩
abbrev S_ : Shape := ⟨0, ![]⟩

class Facts : Prop where
  slices_S2x6144x27_S2x6144x1_0_0_26 : S2x6144x27.Slices ![0, 0, 26] S2x6144x1
  slices_S27x36_S1x36_26_0 : S27x36.Slices ![26, 0] S1x36
  bcast_S_S2x6144x1 : S_.BroadcastsInDim S2x6144x1 (![] : Fin 0 → Fin S2x6144x1.rank)
  bcast_S_S1x36 : S_.BroadcastsInDim S1x36 (![] : Fin 0 → Fin S1x36.rank)

variable [Facts]

def fn {F : FTy → Type} [FloatOps F] (main_arg0 : FVec F S2x6144x3456 .fp8e4m3) (main_arg1 : FVec F S2x6144x27 .f32) (main_arg2 : FVec F S3456x4608 .fp8e4m3) (main_arg3 : FVec F S27x36 .f32) (main_arg4 : FVec F S4608 .bf16) : IVec S2x6144x1 1 × IVec S2x6144x1 1 × IVec S1x36 1 × IVec S1x36 1 :=
  let main_v0 : FVec F S2x6144x1 .f32 := (extractStridedSlice S2x6144x1 ![0, 0, 26] · slices_S2x6144x27_S2x6144x1_0_0_26) main_arg1
  let main_v1 : FVec F S1x36 .f32 := (extractStridedSlice S1x36 ![26, 0] · slices_S27x36_S1x36_26_0) main_arg3
  let main_cst : FVec F S_ .f32 := constant S_ .f32 0x00000000#32
  let main_v2 : FVec F S2x6144x1 .f32 := broadcastInDim S2x6144x1 ![] bcast_S_S2x6144x1 main_cst
  let main_v3 : IVec S2x6144x1 1 := cmpf .oge main_v0 main_v2
  let main_cst_0 : FVec F S_ .f32 := constant S_ .f32 0x7F800000#32
  let main_v4 : FVec F S2x6144x1 .f32 := broadcastInDim S2x6144x1 ![] bcast_S_S2x6144x1 main_cst_0
  let main_v5 : IVec S2x6144x1 1 := cmpf .olt main_v0 main_v4
  let main_cst_1 : FVec F S_ .f32 := constant S_ .f32 0x00000000#32
  let main_v6 : FVec F S1x36 .f32 := broadcastInDim S1x36 ![] bcast_S_S1x36 main_cst_1
  let main_v7 : IVec S1x36 1 := cmpf .oge main_v1 main_v6
  let main_cst_2 : FVec F S_ .f32 := constant S_ .f32 0x7F800000#32
  let main_v8 : FVec F S1x36 .f32 := broadcastInDim S1x36 ![] bcast_S_S1x36 main_cst_2
  let main_v9 : IVec S1x36 1 := cmpf .olt main_v1 main_v8
  (main_v3, main_v5, main_v7, main_v9)
-- ==== Kernel.lean ====
abbrev S2x6144x3456 : Shape := ⟨3, ![2, 6144, 3456]⟩
abbrev S2x6144x27 : Shape := ⟨3, ![2, 6144, 27]⟩
abbrev S3456x4608 : Shape := ⟨2, ![3456, 4608]⟩
abbrev S27x36 : Shape := ⟨2, ![27, 36]⟩
abbrev S4608 : Shape := ⟨1, ![4608]⟩
abbrev S12288x3456 : Shape := ⟨2, ![12288, 3456]⟩
abbrev S12288x27 : Shape := ⟨2, ![12288, 27]⟩
abbrev S1x4608 : Shape := ⟨2, ![1, 4608]⟩
abbrev S12288x4608 : Shape := ⟨2, ![12288, 4608]⟩
abbrev S512x3456 : Shape := ⟨2, ![512, 3456]⟩
abbrev S512x27 : Shape := ⟨2, ![512, 27]⟩
abbrev S512x4608 : Shape := ⟨2, ![512, 4608]⟩
abbrev S3328x4608 : Shape := ⟨2, ![3328, 4608]⟩
abbrev S512x3328 : Shape := ⟨2, ![512, 3328]⟩
abbrev S1x1 : Shape := ⟨2, ![1, 1]⟩
abbrev S128x128 : Shape := ⟨2, ![128, 128]⟩
abbrev S512x1 : Shape := ⟨2, ![512, 1]⟩
abbrev S512x128 : Shape := ⟨2, ![512, 128]⟩
abbrev S3328x512 : Shape := ⟨2, ![3328, 512]⟩
abbrev S512x512 : Shape := ⟨2, ![512, 512]⟩
abbrev S128x512 : Shape := ⟨2, ![128, 512]⟩
abbrev S1x128 : Shape := ⟨2, ![1, 128]⟩
abbrev S2x6144x4608 : Shape := ⟨3, ![2, 6144, 4608]⟩

abbrev nBuf : Space → Nat
  | .hbm => 10
  | .vmem => 10
  | .smem => 1
  | _ => 0

abbrev bufTy : (tb : Table) → Fin (tcTables nBuf tb) → BufTy
  | .hbm, ⟨0, _⟩ => ⟨S2x6144x3456, .fp8e4m3⟩
  | .hbm, ⟨1, _⟩ => ⟨S2x6144x27, .f32⟩
  | .hbm, ⟨2, _⟩ => ⟨S3456x4608, .fp8e4m3⟩
  | .hbm, ⟨3, _⟩ => ⟨S27x36, .f32⟩
  | .hbm, ⟨4, _⟩ => ⟨S4608, .bf16⟩
  | .hbm, ⟨5, _⟩ => ⟨S12288x3456, .fp8e4m3⟩
  | .hbm, ⟨6, _⟩ => ⟨S12288x27, .f32⟩
  | .hbm, ⟨7, _⟩ => ⟨S1x4608, .bf16⟩
  | .hbm, ⟨8, _⟩ => ⟨S12288x4608, .bf16⟩
  | .hbm, ⟨9, _⟩ => ⟨S2x6144x4608, .bf16⟩
  | .local _ .vmem, ⟨0, _⟩ => ⟨S512x3456, .fp8e4m3⟩
  | .local _ .vmem, ⟨1, _⟩ => ⟨S512x3456, .fp8e4m3⟩
  | .local _ .vmem, ⟨2, _⟩ => ⟨S512x27, .f32⟩
  | .local _ .vmem, ⟨3, _⟩ => ⟨S512x27, .f32⟩
  | .local _ .vmem, ⟨4, _⟩ => ⟨S3456x4608, .fp8e4m3⟩
  | .local _ .vmem, ⟨5, _⟩ => ⟨S1x4608, .bf16⟩
  | .local _ .vmem, ⟨6, _⟩ => ⟨S512x4608, .bf16⟩
  | .local _ .vmem, ⟨7, _⟩ => ⟨S512x4608, .bf16⟩
  | .local _ .vmem, ⟨8, _⟩ => ⟨S3328x4608, .bf16⟩
  | .local _ .vmem, ⟨9, _⟩ => ⟨S512x3328, .bf16⟩
  | .local _ .smem, ⟨0, _⟩ => ⟨S27x36, .f32⟩
  | _, _ => ⟨S2x6144x3456, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_393 : BitVec 32 := 0#32
  let c26_i32 : BitVec 32 := 26#32
  let v886 : BitVec 32 := Scalar.addi c0_i32_393 c26_i32
  let c1_i32 : BitVec 32 := 1#32
  ⟨c0_i32_393, v886, c1_i32⟩
def k0_mult1 (k0_t1 : Fin k0_t1_loop.trips) : BitVec 32 :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  v887
def k0_off1 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v889 : Index := Scalar.indexCast arg9
  let c0_395 : Index := 0#32
  ![v889.toNat, 0]
def k0_off2 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v893 : Index := Scalar.indexCast v888
  let c0_396 : Index := 0#32
  ![v893.toNat, 0]
def k0_off3 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v897 : Index := Scalar.indexCast v888
  let c0_397 : Index := 0#32
  ![v897.toNat, 0]
def k0_off4 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v901 : Index := Scalar.indexCast arg9
  let c1_398 : Index := 1#32
  ![v901.toNat, 1]
def k0_off5 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v905 : Index := Scalar.indexCast v888
  let c128_399 : Index := 128#32
  ![v905.toNat, 128]
def k0_off6 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v909 : Index := Scalar.indexCast v888
  let c128_400 : Index := 128#32
  ![v909.toNat, 128]
def k0_off7 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v913 : Index := Scalar.indexCast arg9
  let c2_401 : Index := 2#32
  ![v913.toNat, 2]
def k0_off8 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v917 : Index := Scalar.indexCast v888
  let c256_402 : Index := 256#32
  ![v917.toNat, 256]
def k0_off9 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v921 : Index := Scalar.indexCast v888
  let c256_403 : Index := 256#32
  ![v921.toNat, 256]
def k0_off10 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v925 : Index := Scalar.indexCast arg9
  let c3_404 : Index := 3#32
  ![v925.toNat, 3]
def k0_off11 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v929 : Index := Scalar.indexCast v888
  let c384_405 : Index := 384#32
  ![v929.toNat, 384]
def k0_off12 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v933 : Index := Scalar.indexCast v888
  let c384_406 : Index := 384#32
  ![v933.toNat, 384]
def k0_off13 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v937 : Index := Scalar.indexCast arg9
  let c4_407 : Index := 4#32
  ![v937.toNat, 4]
def k0_off14 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v941 : Index := Scalar.indexCast v888
  let c512_408 : Index := 512#32
  ![v941.toNat, 512]
def k0_off15 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v945 : Index := Scalar.indexCast v888
  let c512_409 : Index := 512#32
  ![v945.toNat, 512]
def k0_off16 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v949 : Index := Scalar.indexCast arg9
  let c5_410 : Index := 5#32
  ![v949.toNat, 5]
def k0_off17 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v953 : Index := Scalar.indexCast v888
  let c640_411 : Index := 640#32
  ![v953.toNat, 640]
def k0_off18 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v957 : Index := Scalar.indexCast v888
  let c640_412 : Index := 640#32
  ![v957.toNat, 640]
def k0_off19 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v961 : Index := Scalar.indexCast arg9
  let c6_413 : Index := 6#32
  ![v961.toNat, 6]
def k0_off20 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v965 : Index := Scalar.indexCast v888
  let c768_414 : Index := 768#32
  ![v965.toNat, 768]
def k0_off21 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v969 : Index := Scalar.indexCast v888
  let c768_415 : Index := 768#32
  ![v969.toNat, 768]
def k0_off22 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v973 : Index := Scalar.indexCast arg9
  let c7_416 : Index := 7#32
  ![v973.toNat, 7]
def k0_off23 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v977 : Index := Scalar.indexCast v888
  let c896_417 : Index := 896#32
  ![v977.toNat, 896]
def k0_off24 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v981 : Index := Scalar.indexCast v888
  let c896_418 : Index := 896#32
  ![v981.toNat, 896]
def k0_off25 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v985 : Index := Scalar.indexCast arg9
  let c8_419 : Index := 8#32
  ![v985.toNat, 8]
def k0_off26 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v989 : Index := Scalar.indexCast v888
  let c1024_420 : Index := 1024#32
  ![v989.toNat, 1024]
def k0_off27 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v993 : Index := Scalar.indexCast v888
  let c1024_421 : Index := 1024#32
  ![v993.toNat, 1024]
def k0_off28 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v997 : Index := Scalar.indexCast arg9
  let c9_422 : Index := 9#32
  ![v997.toNat, 9]
def k0_off29 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1001 : Index := Scalar.indexCast v888
  let c1152_423 : Index := 1152#32
  ![v1001.toNat, 1152]
def k0_off30 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1005 : Index := Scalar.indexCast v888
  let c1152_424 : Index := 1152#32
  ![v1005.toNat, 1152]
def k0_off31 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1009 : Index := Scalar.indexCast arg9
  let c10_425 : Index := 10#32
  ![v1009.toNat, 10]
def k0_off32 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1013 : Index := Scalar.indexCast v888
  let c1280_426 : Index := 1280#32
  ![v1013.toNat, 1280]
def k0_off33 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1017 : Index := Scalar.indexCast v888
  let c1280_427 : Index := 1280#32
  ![v1017.toNat, 1280]
def k0_off34 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1021 : Index := Scalar.indexCast arg9
  let c11_428 : Index := 11#32
  ![v1021.toNat, 11]
def k0_off35 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1025 : Index := Scalar.indexCast v888
  let c1408_429 : Index := 1408#32
  ![v1025.toNat, 1408]
def k0_off36 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1029 : Index := Scalar.indexCast v888
  let c1408_430 : Index := 1408#32
  ![v1029.toNat, 1408]
def k0_off37 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1033 : Index := Scalar.indexCast arg9
  let c12_431 : Index := 12#32
  ![v1033.toNat, 12]
def k0_off38 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1037 : Index := Scalar.indexCast v888
  let c1536_432 : Index := 1536#32
  ![v1037.toNat, 1536]
def k0_off39 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1041 : Index := Scalar.indexCast v888
  let c1536_433 : Index := 1536#32
  ![v1041.toNat, 1536]
def k0_off40 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1045 : Index := Scalar.indexCast arg9
  let c13_434 : Index := 13#32
  ![v1045.toNat, 13]
def k0_off41 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1049 : Index := Scalar.indexCast v888
  let c1664_435 : Index := 1664#32
  ![v1049.toNat, 1664]
def k0_off42 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1053 : Index := Scalar.indexCast v888
  let c1664_436 : Index := 1664#32
  ![v1053.toNat, 1664]
def k0_off43 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1057 : Index := Scalar.indexCast arg9
  let c14_437 : Index := 14#32
  ![v1057.toNat, 14]
def k0_off44 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1061 : Index := Scalar.indexCast v888
  let c1792_438 : Index := 1792#32
  ![v1061.toNat, 1792]
def k0_off45 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1065 : Index := Scalar.indexCast v888
  let c1792_439 : Index := 1792#32
  ![v1065.toNat, 1792]
def k0_off46 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1069 : Index := Scalar.indexCast arg9
  let c15_440 : Index := 15#32
  ![v1069.toNat, 15]
def k0_off47 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1073 : Index := Scalar.indexCast v888
  let c1920_441 : Index := 1920#32
  ![v1073.toNat, 1920]
def k0_off48 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1077 : Index := Scalar.indexCast v888
  let c1920_442 : Index := 1920#32
  ![v1077.toNat, 1920]
def k0_off49 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1081 : Index := Scalar.indexCast arg9
  let c16_443 : Index := 16#32
  ![v1081.toNat, 16]
def k0_off50 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1085 : Index := Scalar.indexCast v888
  let c2048_444 : Index := 2048#32
  ![v1085.toNat, 2048]
def k0_off51 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1089 : Index := Scalar.indexCast v888
  let c2048_445 : Index := 2048#32
  ![v1089.toNat, 2048]
def k0_off52 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1093 : Index := Scalar.indexCast arg9
  let c17_446 : Index := 17#32
  ![v1093.toNat, 17]
def k0_off53 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1097 : Index := Scalar.indexCast v888
  let c2176_447 : Index := 2176#32
  ![v1097.toNat, 2176]
def k0_off54 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1101 : Index := Scalar.indexCast v888
  let c2176_448 : Index := 2176#32
  ![v1101.toNat, 2176]
def k0_off55 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1105 : Index := Scalar.indexCast arg9
  let c18_449 : Index := 18#32
  ![v1105.toNat, 18]
def k0_off56 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1109 : Index := Scalar.indexCast v888
  let c2304_450 : Index := 2304#32
  ![v1109.toNat, 2304]
def k0_off57 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1113 : Index := Scalar.indexCast v888
  let c2304_451 : Index := 2304#32
  ![v1113.toNat, 2304]
def k0_off58 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1117 : Index := Scalar.indexCast arg9
  let c19_452 : Index := 19#32
  ![v1117.toNat, 19]
def k0_off59 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1121 : Index := Scalar.indexCast v888
  let c2432_453 : Index := 2432#32
  ![v1121.toNat, 2432]
def k0_off60 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1125 : Index := Scalar.indexCast v888
  let c2432_454 : Index := 2432#32
  ![v1125.toNat, 2432]
def k0_off61 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1129 : Index := Scalar.indexCast arg9
  let c20_455 : Index := 20#32
  ![v1129.toNat, 20]
def k0_off62 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1133 : Index := Scalar.indexCast v888
  let c2560_456 : Index := 2560#32
  ![v1133.toNat, 2560]
def k0_off63 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1137 : Index := Scalar.indexCast v888
  let c2560_457 : Index := 2560#32
  ![v1137.toNat, 2560]
def k0_off64 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1141 : Index := Scalar.indexCast arg9
  let c21_458 : Index := 21#32
  ![v1141.toNat, 21]
def k0_off65 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1145 : Index := Scalar.indexCast v888
  let c2688_459 : Index := 2688#32
  ![v1145.toNat, 2688]
def k0_off66 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1149 : Index := Scalar.indexCast v888
  let c2688_460 : Index := 2688#32
  ![v1149.toNat, 2688]
def k0_off67 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1153 : Index := Scalar.indexCast arg9
  let c22_461 : Index := 22#32
  ![v1153.toNat, 22]
def k0_off68 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1157 : Index := Scalar.indexCast v888
  let c2816_462 : Index := 2816#32
  ![v1157.toNat, 2816]
def k0_off69 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1161 : Index := Scalar.indexCast v888
  let c2816_463 : Index := 2816#32
  ![v1161.toNat, 2816]
def k0_off70 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1165 : Index := Scalar.indexCast arg9
  let c23_464 : Index := 23#32
  ![v1165.toNat, 23]
def k0_off71 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1169 : Index := Scalar.indexCast v888
  let c2944_465 : Index := 2944#32
  ![v1169.toNat, 2944]
def k0_off72 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1173 : Index := Scalar.indexCast v888
  let c2944_466 : Index := 2944#32
  ![v1173.toNat, 2944]
def k0_off73 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1177 : Index := Scalar.indexCast arg9
  let c24_467 : Index := 24#32
  ![v1177.toNat, 24]
def k0_off74 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1181 : Index := Scalar.indexCast v888
  let c3072_468 : Index := 3072#32
  ![v1181.toNat, 3072]
def k0_off75 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1185 : Index := Scalar.indexCast v888
  let c3072_469 : Index := 3072#32
  ![v1185.toNat, 3072]
def k0_off76 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1189 : Index := Scalar.indexCast arg9
  let c25_470 : Index := 25#32
  ![v1189.toNat, 25]
def k0_off77 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1193 : Index := Scalar.indexCast v888
  let c3200_471 : Index := 3200#32
  ![v1193.toNat, 3200]
def k0_off78 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1197 : Index := Scalar.indexCast v888
  let c3200_472 : Index := 3200#32
  ![v1197.toNat, 3200]
def k0_off79 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1201 : Index := Scalar.indexCast arg9
  let c26_473 : Index := 26#32
  ![v1201.toNat, 26]
def k0_off80 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1205 : Index := Scalar.indexCast v888
  let c3328_474 : Index := 3328#32
  ![v1205.toNat, 3328]
def k0_off81 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1209 : Index := Scalar.indexCast v888
  let c3328_475 : Index := 3328#32
  ![v1209.toNat, 3328]
def k0_off82 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1213 : Index := Scalar.indexCast arg9
  let c27_476 : Index := 27#32
  ![v1213.toNat, 27]
def k0_off83 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1217 : Index := Scalar.indexCast v888
  let c3456_477 : Index := 3456#32
  ![v1217.toNat, 3456]
def k0_off84 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1221 : Index := Scalar.indexCast v888
  let c3456_478 : Index := 3456#32
  ![v1221.toNat, 3456]
def k0_off85 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1225 : Index := Scalar.indexCast arg9
  let c28_479 : Index := 28#32
  ![v1225.toNat, 28]
def k0_off86 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1229 : Index := Scalar.indexCast v888
  let c3584_480 : Index := 3584#32
  ![v1229.toNat, 3584]
def k0_off87 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1233 : Index := Scalar.indexCast v888
  let c3584_481 : Index := 3584#32
  ![v1233.toNat, 3584]
def k0_off88 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1237 : Index := Scalar.indexCast arg9
  let c29_482 : Index := 29#32
  ![v1237.toNat, 29]
def k0_off89 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1241 : Index := Scalar.indexCast v888
  let c3712_483 : Index := 3712#32
  ![v1241.toNat, 3712]
def k0_off90 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1245 : Index := Scalar.indexCast v888
  let c3712_484 : Index := 3712#32
  ![v1245.toNat, 3712]
def k0_off91 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1249 : Index := Scalar.indexCast arg9
  let c30_485 : Index := 30#32
  ![v1249.toNat, 30]
def k0_off92 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1253 : Index := Scalar.indexCast v888
  let c3840_486 : Index := 3840#32
  ![v1253.toNat, 3840]
def k0_off93 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1257 : Index := Scalar.indexCast v888
  let c3840_487 : Index := 3840#32
  ![v1257.toNat, 3840]
def k0_off94 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1261 : Index := Scalar.indexCast arg9
  let c31_488 : Index := 31#32
  ![v1261.toNat, 31]
def k0_off95 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1265 : Index := Scalar.indexCast v888
  let c3968_489 : Index := 3968#32
  ![v1265.toNat, 3968]
def k0_off96 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1269 : Index := Scalar.indexCast v888
  let c3968_490 : Index := 3968#32
  ![v1269.toNat, 3968]
def k0_off97 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1273 : Index := Scalar.indexCast arg9
  let c32_491 : Index := 32#32
  ![v1273.toNat, 32]
def k0_off98 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1277 : Index := Scalar.indexCast v888
  let c4096_492 : Index := 4096#32
  ![v1277.toNat, 4096]
def k0_off99 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1281 : Index := Scalar.indexCast v888
  let c4096_493 : Index := 4096#32
  ![v1281.toNat, 4096]
def k0_off100 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1285 : Index := Scalar.indexCast arg9
  let c33_494 : Index := 33#32
  ![v1285.toNat, 33]
def k0_off101 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1289 : Index := Scalar.indexCast v888
  let c4224_495 : Index := 4224#32
  ![v1289.toNat, 4224]
def k0_off102 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1293 : Index := Scalar.indexCast v888
  let c4224_496 : Index := 4224#32
  ![v1293.toNat, 4224]
def k0_off103 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1297 : Index := Scalar.indexCast arg9
  let c34_497 : Index := 34#32
  ![v1297.toNat, 34]
def k0_off104 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1301 : Index := Scalar.indexCast v888
  let c4352_498 : Index := 4352#32
  ![v1301.toNat, 4352]
def k0_off105 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1305 : Index := Scalar.indexCast v888
  let c4352_499 : Index := 4352#32
  ![v1305.toNat, 4352]
def k0_off106 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let v1309 : Index := Scalar.indexCast arg9
  let c35_500 : Index := 35#32
  ![v1309.toNat, 35]
def k0_off107 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1313 : Index := Scalar.indexCast v888
  let c4480_501 : Index := 4480#32
  ![v1313.toNat, 4480]
def k0_off108 (k0_t1 : Fin k0_t1_loop.trips) : Fin 2 → Nat :=
  let c0_i32_393 : BitVec 32 := 0#32
  let c1_i32 : BitVec 32 := 1#32
  let arg9 : BitVec 32 := Scf.iv c0_i32_393 c1_i32 k0_t1
  let c128_i32 : BitVec 32 := 128#32
  let v887 : BitVec 32 := Scalar.muli arg9 c128_i32
  let v888 : BitVec 32 := v887
  let v1317 : Index := Scalar.indexCast v888
  let c4480_502 : Index := 4480#32
  ![v1317.toNat, 4480]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3456 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3456x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S27x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4608 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x6144x3456 : Shape := ⟨3, ![2, 6144, 3456]⟩
abbrev S2x6144x27 : Shape := ⟨3, ![2, 6144, 27]⟩
abbrev S3456x4608 : Shape := ⟨2, ![3456, 4608]⟩
abbrev S27x36 : Shape := ⟨2, ![27, 36]⟩
abbrev S4608 : Shape := ⟨1, ![4608]⟩
abbrev S2x6144x4608 : Shape := ⟨3, ![2, 6144, 4608]⟩
abbrev S2x6144x27x128 : Shape := ⟨4, ![2, 6144, 27, 128]⟩
abbrev S2x6144x27x1 : Shape := ⟨4, ![2, 6144, 27, 1]⟩
abbrev S27x128x36x128 : Shape := ⟨4, ![27, 128, 36, 128]⟩
abbrev S27x1x36x1 : Shape := ⟨4, ![27, 1, 36, 1]⟩
abbrev S1x1x4608 : Shape := ⟨3, ![1, 1, 4608]⟩

abbrev nBuf : Space → Nat
  | .hbm => 6
  | .vmem => 6
  | .smem => 0
  | _ => 0

abbrev bufTy : (tb : Table) → Fin (tcTables nBuf tb) → BufTy
  | .hbm, ⟨0, _⟩ => ⟨S2x6144x3456, .fp8e4m3⟩
  | .hbm, ⟨1, _⟩ => ⟨S2x6144x27, .f32⟩
  | .hbm, ⟨2, _⟩ => ⟨S3456x4608, .fp8e4m3⟩
  | .hbm, ⟨3, _⟩ => ⟨S27x36, .f32⟩
  | .hbm, ⟨4, _⟩ => ⟨S4608, .bf16⟩
  | .hbm, ⟨5, _⟩ => ⟨S2x6144x4608, .bf16⟩
  | .local _ .vmem, ⟨0, _⟩ => ⟨S2x6144x3456, .fp8e4m3⟩
  | .local _ .vmem, ⟨1, _⟩ => ⟨S2x6144x27, .f32⟩
  | .local _ .vmem, ⟨2, _⟩ => ⟨S3456x4608, .fp8e4m3⟩
  | .local _ .vmem, ⟨3, _⟩ => ⟨S27x36, .f32⟩
  | .local _ .vmem, ⟨4, _⟩ => ⟨S4608, .bf16⟩
  | .local _ .vmem, ⟨5, _⟩ => ⟨S2x6144x4608, .bf16⟩
  | _, _ => ⟨S2x6144x3456, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x6144x3456 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3456x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Algebra.lean ====
/-
  The arithmetic of the two programs over the extended reals: a factor leaves a finite sum when it is nonnegative and
  not `⊤`, and a sum of 3456 terms is the sum of its first 3328 and its last 128.
-/
module

public import Idealize.ShloMosaic.PureOps.Ideal
public import Mathlib.Algebra.BigOperators.Fin

@[expose] public section

noncomputable section

namespace Cert.KernelIdeal.Algebra

/-- A factor that is nonnegative and not `⊤` leaves a finite sum, whatever the terms are. -/
theorem sum_mul_of_nonneg {ι : Type*} (s : Finset ι) (f : ι → EReal) (p : EReal) (h0 : 0 ≤ p) (ht : p ≠ ⊤) :
    (∑ k ∈ s, f k) * p = ∑ k ∈ s, f k * p := by
  classical
  induction s using Finset.induction_on with
  | empty => simp
  | insert a s ha ih =>
    rw [Finset.sum_insert ha, Finset.sum_insert ha, EReal.right_distrib_of_nonneg_of_ne_top h0 ht, ih]

/-- The product of two values in `[0, ⊤)` lies there too. -/
theorem mul_nonneg_ne_top (a b : EReal) (ha0 : 0 ≤ a) (ha : a ≠ ⊤) (hb0 : 0 ≤ b) (hb : b ≠ ⊤) :
    0 ≤ a * b ∧ a * b ≠ ⊤ := by
  have ha' : a ≠ ⊥ := fun h => by rw [h] at ha0; exact absurd ha0 (by decide)
  have hb' : b ≠ ⊥ := fun h => by rw [h] at hb0; exact absurd hb0 (by decide)
  lift a to ℝ using ⟨ha, ha'⟩
  lift b to ℝ using ⟨hb, hb'⟩
  refine ⟨mul_nonneg ha0 hb0, ?_⟩
  rw [← EReal.coe_mul]
  exact EReal.coe_ne_top _

/-- The kernel's scaling of the last group after its sum is the reference's scaling of every factor before it. -/
theorem sum_scale {n : ℕ} (x w : Fin n → EReal) (a b : EReal) (ha0 : 0 ≤ a) (ha : a ≠ ⊤) (hb0 : 0 ≤ b) (hb : b ≠ ⊤) :
    (∑ k, x k * w k) * (a * b) = ∑ k, (x k * a) * (w k * b) := by
  have h := mul_nonneg_ne_top a b ha0 ha hb0 hb
  rw [sum_mul_of_nonneg _ _ _ h.1 h.2]
  exact Finset.sum_congr rfl fun k _ => mul_mul_mul_comm _ _ _ _

/-- A sum over the 3456 input features: the first 26 groups' 3328, and the last group's 128. -/
theorem sum_split (f : Fin 3456 → EReal) :
    ∑ k, f k = (∑ k : Fin 3328, f ⟨k.val, by omega⟩) + ∑ k : Fin 128, f ⟨3328 + k.val, by omega⟩ :=
  Fin.sum_univ_add (M := EReal) (a := 3328) (b := 128) f

end Cert.KernelIdeal.Algebra

end
-- ==== Proof.Tiles.lean ====
/-
  What one store of the kernel writes, at the exact numbers. The body stores in tiles of 128 columns: the scaled codes of
  the input (one group of features a tile), the scaled codes of the weight (one block a tile), and the result. Each kind
  has one generic tile here (`xtile`, `wtile`, `otile`), the function of the whole buffer it restricts (`XB`, `WB`, `OB`),
  and the lemma that it restricts it (`good_x`, `good_w`, `good_o`).
-/
module

public import proofs.«01_k».proof.Proof.Gen.KernelIdeal.Skeleton
public import Idealize.ShloMosaic.Lib.Pointwise
public import Idealize.ShloMosaic.Lib.Pipeline.FrameBody

@[expose] public section

set_option maxRecDepth 16384

noncomputable section

namespace Cert.KernelIdeal.Tiles

open Idealize.ShloMosaic Idealize.ShloMosaic.TcCoe Cert.KernelIdeal.Gen

/-! ## Indices -/

/-- Two indices of a rank-2 shape with the same coordinates are the same. -/
theorem ext2 {a b : ℕ} (j k : (⟨2, ![a, b]⟩ : Shape).Idx) (h0 : (j 0).val = (k 0).val) (h1 : (j 1).val = (k 1).val) : j = k := by
  funext x
  apply Fin.ext
  match x with
  | ⟨0, _⟩ => exact h0
  | ⟨1, _⟩ => exact h1

/-- A load through a unit-stride rectangle of a whole buffer reads the buffer's contents, shifted by the offsets. -/
theorem ld2 {sp : Space} {e : EltTy} {n0 n1 s0 s1 : ℕ} (m : Memref sig .tc sp ⟨2, ![n0, n1]⟩ e) (hm : m.IsWhole)
    (d : Vec Ideal ⟨2, ![n0, n1]⟩ e) (off : Fin 2 → ℕ) (o0 o1 : ℕ) (hoff : off = ![o0, o1])
    (inb : ∀ a, off a + ![s0, s1] a ≤ (⟨2, ![n0, n1]⟩ : Shape).size a)
    (j : (⟨2, ![s0, s1]⟩ : Shape).Idx) (k : (⟨2, ![n0, n1]⟩ : Shape).Idx)
    (h0 : (k 0).val = o0 + (j 0).val) (h1 : (k 1).val = o1 + (j 1).val) :
    View.readAt (Elt Ideal) m.view (Rect.unit (s := ⟨2, ![n0, n1]⟩) off ![s0, s1] inb).toLoadRect (hm.unread d) j = d k := by
  subst hoff
  rw [View.readAt_eq_ld, Memref.IsWhole.read_unread]
  show d _ = d k
  refine congrArg d (ext2 _ _ ?_ ?_)
  · show o0 + 1 * (j 0).val = (k 0).val
    omega
  · show o1 + 1 * (j 1).val = (k 1).val
    omega

/-! ## The functions of the whole buffers -/

/-- The scaled input codes of one block of rows: features `0 … 3327`, the code times its group's scale. -/
def XB (x0 : Vec Ideal S512x3456 .fp8e4m3) (x1 : Vec Ideal S512x27 .f32) : Vec Ideal S512x3328 .bf16 := fun y =>
  x0 (ix2 (⟨(y 0).val, (y 0).isLt⟩ : Fin 512) (⟨(y 1).val, by have h : (y 1).val < 3328 := (y 1).isLt; omega⟩ : Fin 3456))
    * x1 (ix2 (⟨(y 0).val, (y 0).isLt⟩ : Fin 512) (⟨(y 1).val / 128, by have h : (y 1).val < 3328 := (y 1).isLt; omega⟩ : Fin 27))

/-- The scaled weight codes: features `0 … 3327`, the code times its block's scale. -/
def WB (x2 : Vec Ideal S3456x4608 .fp8e4m3) (x3 : Vec Ideal S27x36 .f32) : Vec Ideal S3328x4608 .bf16 := fun y =>
  x2 (ix2 (⟨(y 0).val, by have h : (y 0).val < 3328 := (y 0).isLt; omega⟩ : Fin 3456) (⟨(y 1).val, (y 1).isLt⟩ : Fin 4608))
    * x3 (ix2 (⟨(y 0).val / 128, by have h : (y 0).val < 3328 := (y 0).isLt; omega⟩ : Fin 27)
        (⟨(y 1).val / 128, by have h : (y 1).val < 4608 := (y 1).isLt; omega⟩ : Fin 36))

/-- One block of the result from the scaled weight codes `W`: the product over the first 26 groups' features, plus the
    last group's product of codes times its two scales, plus the bias. -/
def OB (x0 : Vec Ideal S512x3456 .fp8e4m3) (x1 : Vec Ideal S512x27 .f32) (x2 : Vec Ideal S3456x4608 .fp8e4m3) (x3 : Vec Ideal S27x36 .f32)
    (x4 : Vec Ideal S1x4608 .bf16) (W : Vec Ideal S3328x4608 .bf16) : Vec Ideal S512x4608 .bf16 := fun y =>
  (∑ k : Fin 3328, XB x0 x1 (ix2 (⟨(y 0).val, (y 0).isLt⟩ : Fin 512) k) * W (ix2 k (⟨(y 1).val, (y 1).isLt⟩ : Fin 4608)))
    + (∑ k : Fin 128, x0 (ix2 (⟨(y 0).val, (y 0).isLt⟩ : Fin 512) (⟨3328 + k.val, by omega⟩ : Fin 3456))
        * x2 (ix2 (⟨3328 + k.val, by omega⟩ : Fin 3456) (⟨(y 1).val, (y 1).isLt⟩ : Fin 4608)))
      * (x1 (ix2 (⟨(y 0).val, (y 0).isLt⟩ : Fin 512) (26 : Fin 27))
        * x3 (ix2 (26 : Fin 27) (⟨(y 1).val / 128, by have h : (y 1).val < 4608 := (y 1).isLt; omega⟩ : Fin 36)))
    + x4 (ix2 (0 : Fin 1) (⟨(y 1).val, (y 1).isLt⟩ : Fin 4608))

/-! ## The generic tiles -/

/-- One group's scaled input codes: the codes times the group's scale of the row. -/
def xtile (s : Vec Ideal S512x1 .f32) (x : Vec Ideal S512x128 .fp8e4m3) : FVec Ideal S512x128 .bf16 := k0_pay78 s x

/-- One block's scaled weight codes: the codes times the block's scale. -/
def wtile (s : Elt Ideal .f32) (w : Vec Ideal S128x128 .fp8e4m3) : FVec Ideal S128x128 .bf16 := k0_pay3 s w

/-- One tile of the result: columns `w … w + 127` of the two products of 512 columns. -/
def otile (w : ℕ) (hw : S512x512.Slices ![0, w] S512x128) (xb : Vec Ideal S512x3328 .bf16) (wb : Vec Ideal S3328x512 .bf16)
    (xc : Vec Ideal S512x128 .fp8e4m3) (wc : Vec Ideal S128x512 .fp8e4m3) (xs : Vec Ideal S512x1 .f32) (ws : Elt Ideal .f32)
    (b : Vec Ideal S1x128 .bf16) : FVec Ideal S512x128 .bf16 :=
  truncf .bf16 (addf (addf (extractStridedSlice S512x128 ![0, w] (k0_pay80 xb wb) hw)
      (mulf (extractStridedSlice S512x128 ![0, w] (k0_pay81 xc wc) hw) (mulf (k0_pay79 xs) (broadcast S512x128 ws))))
    (broadcastTo S512x128 (extf .f32 (shapeCast S1x128 b shapeCasts_S1x128_S1x128) bitsLt_bf16_f32) broadcasts_S1x128_S512x128)) bitsLt_bf16_f32

/-- `xtile` at an index. -/
theorem xtile_apply (s : Vec Ideal S512x1 .f32) (x : Vec Ideal S512x128 .fp8e4m3) (r : Fin 512) (l : Fin 128) :
    xtile s x (ix2 r l) = x (ix2 r l) * s (ix2 r 0) := by
  pointwise [xtile, k0_pay78]

/-- `wtile` at an index. -/
theorem wtile_apply (s : Elt Ideal .f32) (w : Vec Ideal S128x128 .fp8e4m3) (r : Fin 128) (l : Fin 128) :
    wtile s w (ix2 r l) = w (ix2 r l) * s := by
  pointwise [wtile, k0_pay3]

/-- The product of 512 columns over the first 26 groups, at an index. -/
theorem pay80_apply (xb : Vec Ideal S512x3328 .bf16) (wb : Vec Ideal S3328x512 .bf16) (r : Fin 512) (l : Fin 512) :
    k0_pay80 xb wb (ix2 r l) = ∑ k : Fin 3328, xb (ix2 r k) * wb (ix2 k l) := by
  pointwise [k0_pay80]

/-- The product of 512 columns over the last group, at an index. -/
theorem pay81_apply (xc : Vec Ideal S512x128 .fp8e4m3) (wc : Vec Ideal S128x512 .fp8e4m3) (r : Fin 512) (l : Fin 512) :
    k0_pay81 xc wc (ix2 r l) = ∑ k : Fin 128, xc (ix2 r k) * wc (ix2 k l) := by
  pointwise [k0_pay81]

/-- `otile` at an index. -/
theorem otile_apply (w : ℕ) (hw : S512x512.Slices ![0, w] S512x128) (hw' : w + 128 ≤ 512) (xb : Vec Ideal S512x3328 .bf16)
    (wb : Vec Ideal S3328x512 .bf16) (xc : Vec Ideal S512x128 .fp8e4m3) (wc : Vec Ideal S128x512 .fp8e4m3) (xs : Vec Ideal S512x1 .f32)
    (ws : Elt Ideal .f32) (b : Vec Ideal S1x128 .bf16) (r : Fin 512) (l : Fin 128) :
    otile w hw xb wb xc wc xs ws b (ix2 r l)
      = (∑ k : Fin 3328, xb (ix2 r k) * wb (ix2 k (⟨w + l.val, by omega⟩ : Fin 512)))
        + (∑ k : Fin 128, xc (ix2 r k) * wc (ix2 k (⟨w + l.val, by omega⟩ : Fin 512))) * (xs (ix2 r 0) * ws)
        + b (ix2 0 l) := by
  have e : ∀ v : FVec Ideal S512x512 .f32, extractStridedSlice S512x128 ![0, w] v hw (ix2 r l) = v (ix2 r (⟨w + l.val, by omega⟩ : Fin 512)) := fun v => by
    refine extractStridedSlice_apply _ _ _ _ _ fun a => ?_
    match a with
    | ⟨0, _⟩ => show r.val = 0 + r.val; omega
    | ⟨1, _⟩ => rfl
  have e1 : k0_pay79 xs (ix2 r l) = xs (ix2 r 0) := by pointwise [k0_pay79]
  have e2 : broadcastTo S512x128 (extf (F := Ideal) .f32 (shapeCast S1x128 b shapeCasts_S1x128_S1x128) bitsLt_bf16_f32) broadcasts_S1x128_S512x128 (ix2 r l)
      = b (ix2 0 l) := by pointwise
  show extractStridedSlice S512x128 ![0, w] (k0_pay80 xb wb) hw (ix2 r l)
      + extractStridedSlice S512x128 ![0, w] (k0_pay81 xc wc) hw (ix2 r l) * (k0_pay79 xs (ix2 r l) * ws)
      + broadcastTo S512x128 (extf (F := Ideal) .f32 (shapeCast S1x128 b shapeCasts_S1x128_S1x128) bitsLt_bf16_f32) broadcasts_S1x128_S512x128 (ix2 r l) = _
  rw [e, e, e1, e2, pay80_apply, pay81_apply]

/-! ## Each tile restricts the function of its buffer -/

/-- Every index of a rank-2 shape is the pair of its coordinates. -/
theorem eta2 {a b : ℕ} (j : (⟨2, ![a, b]⟩ : Shape).Idx) : j = ix2 (⟨(j 0).val, (j 0).isLt⟩ : Fin a) (⟨(j 1).val, (j 1).isLt⟩ : Fin b) :=
  ext2 _ _ rfl rfl

/-- A piece agrees with a function of the whole buffer on its rectangle. -/
def Good {S : Shape} {e : EltTy} (G : S.Idx → Elt Ideal e) (p : View.Piece (Elt Ideal) S e) : Prop :=
  ∀ x : p.1.shape.Idx, p.2 x = G (p.1.emb x)

/-- A store of group `lo / 128`'s scaled codes at columns `lo …` restricts `XB`. -/
theorem good_x (m1 : Memref sig .tc .vmem S512x3456 .fp8e4m3) (h1 : m1.IsWhole) (m2 : Memref sig .tc .vmem S512x27 .f32) (h2 : m2.IsWhole)
    (x0 : Vec Ideal S512x3456 .fp8e4m3) (x1 : Vec Ideal S512x27 .f32) (lo : ℕ) (hlo : lo % 128 = 0 ∧ lo < 3328)
    (inb : ∀ a, (![0, lo] : Fin 2 → ℕ) a + ![512, 128] a ≤ S512x3328.size a)
    (inb1 : ∀ a, (![0, lo] : Fin 2 → ℕ) a + ![512, 128] a ≤ S512x3456.size a)
    (inb2 : ∀ a, (![0, lo / 128] : Fin 2 → ℕ) a + ![512, 1] a ≤ S512x27.size a) :
    Good (XB x0 x1) ⟨Rect.unit (s := S512x3328) ![0, lo] ![512, 128] inb,
      xtile (View.readAt (Elt Ideal) m2.view (Rect.unit (s := S512x27) ![0, lo / 128] ![512, 1] inb2).toLoadRect (h2.unread x1))
        (View.readAt (Elt Ideal) m1.view (Rect.unit (s := S512x3456) ![0, lo] ![512, 128] inb1).toLoadRect (h1.unread x0))⟩ := by
  intro x
  obtain ⟨h0, hb⟩ := hlo
  have hx0 : (x 0).val < 512 := (x 0).isLt
  have hx1 : (x 1).val < 128 := (x 1).isLt
  obtain ⟨r, l, rfl⟩ : ∃ (r : Fin 512) (l : Fin 128), x = ix2 r l := ⟨_, _, eta2 x⟩
  refine (xtile_apply _ _ r l).trans ?_
  refine congrArg₂ (· * ·) ?_ ?_
  · refine ld2 m1 h1 x0 _ 0 lo rfl _ _ _ ?_ ?_
    · show 0 + 1 * r.val = 0 + r.val; omega
    · show lo + 1 * l.val = lo + l.val; omega
  · refine ld2 m2 h2 x1 _ 0 (lo / 128) rfl _ _ _ ?_ ?_
    · show 0 + 1 * r.val = 0 + r.val; omega
    · show (lo + 1 * l.val) / 128 = lo / 128 + 0
      have := l.isLt; omega

/-- A store of block `(k, n)`'s scaled codes at rows `128 k …` and columns `128 n …` restricts `WB`. -/
theorem good_w (m3 : Memref sig .tc .vmem S3456x4608 .fp8e4m3) (h3 : m3.IsWhole) (m4 : Memref sig .tc .smem S27x36 .f32) (h4 : m4.IsWhole)
    (x2 : Vec Ideal S3456x4608 .fp8e4m3) (x3 : Vec Ideal S27x36 .f32) (k n lo : ℕ) (hk : k < 26) (hn : n < 36) (hlo : lo = 128 * n)
    (o1 o2 o3 : Fin 2 → ℕ) (e1 : o1 = ![k, n]) (e2 : o2 = ![128 * k, lo]) (e3 : o3 = ![128 * k, lo])
    (inb : ∀ a, o3 a + ![128, 128] a ≤ S3328x4608.size a)
    (inb2 : ∀ a, o2 a + ![128, 128] a ≤ S3456x4608.size a)
    (inb1 : ∀ a, o1 a + ![1, 1] a ≤ S27x36.size a) (hp : 0 < (⟨2, ![1, 1]⟩ : Shape).numel) :
    Good (WB x2 x3) ⟨Rect.unit (s := S3328x4608) o3 ![128, 128] inb,
      wtile (View.readAt (Elt Ideal) m4.view (Rect.unit (s := S27x36) o1 ![1, 1] inb1).toLoadRect (h4.unread x3) (Shape.Idx.first hp))
        (View.readAt (Elt Ideal) m3.view (Rect.unit (s := S3456x4608) o2 ![128, 128] inb2).toLoadRect (h3.unread x2))⟩ := by
  intro x
  subst hlo
  have hx0 : (x 0).val < 128 := (x 0).isLt
  have hx1 : (x 1).val < 128 := (x 1).isLt
  obtain ⟨r, l, rfl⟩ : ∃ (r : Fin 128) (l : Fin 128), x = ix2 r l := ⟨_, _, eta2 x⟩
  have hr := r.isLt
  have hl := l.isLt
  subst e3
  refine (wtile_apply _ _ r l).trans ?_
  refine congrArg₂ (· * ·) ?_ ?_
  · refine ld2 m3 h3 x2 _ (128 * k) (128 * n) e2 _ _ _ ?_ ?_
    · show 128 * k + 1 * r.val = 128 * k + r.val; omega
    · show 128 * n + 1 * l.val = 128 * n + l.val; omega
  · refine ld2 m4 h4 x3 _ k n e1 _ _ _ ?_ ?_
    · show (128 * k + 1 * r.val) / 128 = k + 0; omega
    · show (128 * n + 1 * l.val) / 128 = n + 0; omega

/-- A store of a result tile at columns `lo …` restricts `OB`, whatever holds the scaled input codes and the scaled weight
    codes of the 512 columns the tile lies in. -/
theorem good_o (m1 : Memref sig .tc .vmem S512x3456 .fp8e4m3) (h1 : m1.IsWhole) (m2 : Memref sig .tc .vmem S512x27 .f32) (h2 : m2.IsWhole)
    (m3 : Memref sig .tc .vmem S3456x4608 .fp8e4m3) (h3 : m3.IsWhole) (m4 : Memref sig .tc .smem S27x36 .f32) (h4 : m4.IsWhole)
    (m5 : Memref sig .tc .vmem S1x4608 .bf16) (h5 : m5.IsWhole)
    (x0 : Vec Ideal S512x3456 .fp8e4m3) (x1 : Vec Ideal S512x27 .f32) (x2 : Vec Ideal S3456x4608 .fp8e4m3) (x3 : Vec Ideal S27x36 .f32)
    (x4 : Vec Ideal S1x4608 .bf16) (W : Vec Ideal S3328x4608 .bf16) (xb : Vec Ideal S512x3328 .bf16) (wb : Vec Ideal S3328x512 .bf16)
    (lo : ℕ) (hlo : lo % 128 = 0 ∧ lo < 4608) (hxb : xb = XB x0 x1)
    (hwb : ∀ (k : Fin 3328) (l : Fin 512) (hl : 512 * (lo / 512) + l.val < 4608), wb (ix2 k l) = W (ix2 k (⟨512 * (lo / 512) + l.val, hl⟩ : Fin 4608)))
    (hw : S512x512.Slices ![0, lo % 512] S512x128)
    (inb : ∀ a, (![0, lo] : Fin 2 → ℕ) a + ![512, 128] a ≤ S512x4608.size a)
    (inb1 : ∀ a, (![0, 3328] : Fin 2 → ℕ) a + ![512, 128] a ≤ S512x3456.size a)
    (inb2 : ∀ a, (![0, 26] : Fin 2 → ℕ) a + ![512, 1] a ≤ S512x27.size a)
    (inb3 : ∀ a, (![3328, 512 * (lo / 512)] : Fin 2 → ℕ) a + ![128, 512] a ≤ S3456x4608.size a)
    (inb4 : ∀ a, (![26, lo / 128] : Fin 2 → ℕ) a + ![1, 1] a ≤ S27x36.size a) (hp : 0 < (⟨2, ![1, 1]⟩ : Shape).numel)
    (inb5 : ∀ a, (![0, lo] : Fin 2 → ℕ) a + ![1, 128] a ≤ S1x4608.size a) :
    Good (OB x0 x1 x2 x3 x4 W) ⟨Rect.unit (s := S512x4608) ![0, lo] ![512, 128] inb,
      otile (lo % 512) hw xb wb
        (View.readAt (Elt Ideal) m1.view (Rect.unit (s := S512x3456) ![0, 3328] ![512, 128] inb1).toLoadRect (h1.unread x0))
        (View.readAt (Elt Ideal) m3.view (Rect.unit (s := S3456x4608) ![3328, 512 * (lo / 512)] ![128, 512] inb3).toLoadRect (h3.unread x2))
        (View.readAt (Elt Ideal) m2.view (Rect.unit (s := S512x27) ![0, 26] ![512, 1] inb2).toLoadRect (h2.unread x1))
        (View.readAt (Elt Ideal) m4.view (Rect.unit (s := S27x36) ![26, lo / 128] ![1, 1] inb4).toLoadRect (h4.unread x3) (Shape.Idx.first hp))
        (View.readAt (Elt Ideal) m5.view (Rect.unit (s := S1x4608) ![0, lo] ![1, 128] inb5).toLoadRect (h5.unread x4))⟩ := by
  intro x
  subst hxb
  obtain ⟨h0, hb⟩ := hlo
  have hx0 : (x 0).val < 512 := (x 0).isLt
  have hx1 : (x 1).val < 128 := (x 1).isLt
  obtain ⟨r, l, rfl⟩ : ∃ (r : Fin 512) (l : Fin 128), x = ix2 r l := ⟨_, _, eta2 x⟩
  have hl := l.isLt
  have hd := Nat.div_add_mod lo 512
  have hm := Nat.mod_lt lo (show 0 < 512 by omega)
  have hcol : 512 * (lo / 512) + (lo % 512 + l.val) = lo + 1 * l.val := by omega
  refine (otile_apply (lo % 512) hw (by omega) _ _ _ _ _ _ _ r l).trans ?_
  refine congrArg₂ (· + ·) (congrArg₂ (· + ·) ?_ (congrArg₂ (· * ·) ?_ (congrArg₂ (· * ·) ?_ ?_))) ?_
  · refine Finset.sum_congr rfl fun k _ => congrArg₂ (· * ·) ?_ ?_
    · refine congrArg (XB x0 x1) (ext2 _ _ ?_ rfl)
      show r.val = 0 + 1 * r.val; omega
    · refine (hwb k ⟨lo % 512 + l.val, by omega⟩ (by show 512 * (lo / 512) + (lo % 512 + l.val) < 4608; omega)).trans ?_
      exact congrArg W (ext2 _ _ rfl hcol)
  · refine Finset.sum_congr rfl fun k _ => congrArg₂ (· * ·) ?_ ?_
    · refine ld2 m1 h1 x0 _ 0 3328 rfl _ _ _ ?_ rfl
      show 0 + 1 * r.val = 0 + r.val; omega
    · refine ld2 m3 h3 x2 _ 3328 (512 * (lo / 512)) rfl _ _ _ rfl ?_
      exact hcol.symm
  · refine ld2 m2 h2 x1 _ 0 26 rfl _ _ _ ?_ rfl
    show 0 + 1 * r.val = 0 + r.val; omega
  · refine ld2 m4 h4 x3 _ 26 (lo / 128) rfl _ _ _ rfl ?_
    show (lo + 1 * l.val) / 128 = lo / 128 + 0
    omega
  · refine ld2 m5 h5 x4 _ 0 lo rfl _ _ _ rfl ?_
    show lo + 1 * l.val = lo + l.val
    omega

end Cert.KernelIdeal.Tiles

end
-- ==== Proof.WeightTiles.lean ====
/-
  The scratch of scaled weight codes. The first grid point fills it in a counted loop of 26 trips, 36 blocks a trip; every
  block restricts one function of the whole scratch, `WB` (Tiles.lean).
-/
module

public import proofs.«01_k».proof.Proof.Gen.KernelIdeal.Frame
public import proofs.«01_k».proof.Proof.Tiles

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (c : Dev nD) (i : grid0.Coords)
  (arg1 : Memref sig .tc .vmem S512x3456 .fp8e4m3) (harg1 : arg1.IsWhole)
  (arg2 : Memref sig .tc .vmem S512x27 .f32) (harg2 : arg2.IsWhole)
  (arg3 : Memref sig .tc .vmem S3456x4608 .fp8e4m3) (harg3 : arg3.IsWhole)
  (arg4 : Memref sig .tc .smem S27x36 .f32) (harg4 : arg4.IsWhole)
  (arg5 : Memref sig .tc .vmem S1x4608 .bf16) (harg5 : arg5.IsWhole)
  (arg6 : Memref sig .tc .vmem S512x4608 .bf16) (harg6 : arg6.IsWhole)
  (arg7 : Memref sig .tc .vmem S3328x4608 .bf16) (harg7 : arg7.IsWhole)
  (arg8 : Memref sig .tc .vmem S512x3328 .bf16) (harg8 : arg8.IsWhole)
  (x0 : Vec Ideal S512x3456 .fp8e4m3) (x1 : Vec Ideal S512x27 .f32) (x2 : Vec Ideal S3456x4608 .fp8e4m3) (x3 : Vec Ideal S27x36 .f32) (x4 : Vec Ideal S1x4608 .bf16)

/-! ## The loop: one trip writes the scaled weight codes of one group of features -/

/-- Where trip `k` reads the scale of block `n`. -/
def scaleAt (k : Fin k0_t1_loop.trips) (n : ℕ) : Fin 2 → ℕ := ![k0_off1 k 0, n]

/-- Where trip `k` reads the codes of block `n`, and stores them scaled. -/
def blockAt (k : Fin k0_t1_loop.trips) (n : ℕ) : Fin 2 → ℕ := ![k0_off2 k 0, 128 * n]

theorem scaleAt_eq (k : Fin k0_t1_loop.trips) (n : ℕ) : scaleAt k n = ![k.val, n] := by
  unfold scaleAt
  rw [k0_off1_eq]
  rfl

theorem blockAt_eq (k : Fin k0_t1_loop.trips) (n : ℕ) : blockAt k n = ![128 * k.val, 128 * n] := by
  unfold blockAt
  rw [k0_off2_eq]
  rfl

theorem trip_lt (k : Fin k0_t1_loop.trips) : k.val < 26 := Nat.lt_of_lt_of_le k.isLt k0_t1_abs.2.1

/-- The scale's place lies in the array of scales. -/
theorem scaleAt_inb (k : Fin k0_t1_loop.trips) (n : Fin 36) : ∀ a, scaleAt k n.val a + ![1, 1] a ≤ S27x36.size a := by
  have hk := trip_lt k
  rw [scaleAt_eq]
  exact fun a => match a with
    | ⟨0, _⟩ => by show k.val + 1 ≤ 27; omega
    | ⟨1, _⟩ => by show n.val + 1 ≤ 36; omega

/-- The block lies in the array of codes. -/
theorem blockAt_inb (k : Fin k0_t1_loop.trips) (n : Fin 36) : ∀ a, blockAt k n.val a + ![128, 128] a ≤ S3456x4608.size a := by
  have hk := trip_lt k
  rw [blockAt_eq]
  exact fun a => match a with
    | ⟨0, _⟩ => by show 128 * k.val + 128 ≤ 3456; omega
    | ⟨1, _⟩ => by show 128 * n.val + 128 ≤ 4608; omega

/-- The block lies in the scratch. -/
theorem blockAt_inb' (k : Fin k0_t1_loop.trips) (n : Fin 36) : ∀ a, blockAt k n.val a + ![128, 128] a ≤ S3328x4608.size a := by
  have hk := trip_lt k
  rw [blockAt_eq]
  exact fun a => match a with
    | ⟨0, _⟩ => by show 128 * k.val + 128 ≤ 3328; omega
    | ⟨1, _⟩ => by show 128 * n.val + 128 ≤ 4608; omega

/-- Trip `k`'s store of block `n`'s scaled codes. -/
def wpiece (k : Fin k0_t1_loop.trips) (n : Fin 36) : View.Piece (Elt Ideal) S3328x4608 .bf16 :=
  ⟨Rect.unit (s := S3328x4608) (blockAt k n.val) ![128, 128] (blockAt_inb' k n),
    wtile (View.readAt (Elt Ideal) arg4.view (Rect.unit (s := S27x36) (scaleAt k n.val) ![1, 1] (scaleAt_inb k n)).toLoadRect (harg4.unread x3)
        (Shape.Idx.first (show 0 < (⟨2, ![1, 1]⟩ : Shape).numel by decide)))
      (View.readAt (Elt Ideal) arg3.view (Rect.unit (s := S3456x4608) (blockAt k n.val) ![128, 128] (blockAt_inb k n)).toLoadRect (harg3.unread x2))⟩

/-- The stores of trip `k`, last first, are these, one for each of the 36 blocks. -/
theorem trip_pieces (k0_h1 : k0_cond1 i = 1#1) (k : Fin k0_t1_loop.trips) :
    tripL_k0_t1 (F := Ideal) Variants.none c none i arg1 harg1 arg2 harg2 arg3 harg3 arg4 harg4 arg5 harg5 arg6 harg6 arg7 harg7 arg8 harg8 k0_h1 (harg3.unread x2) (harg4.unread x3) k
      = ([35, 34, 33, 32, 31, 30, 29, 28, 27, 26, 25, 24, 23, 22, 21, 20, 19, 18, 17, 16, 15, 14, 13, 12, 11, 10, 9, 8, 7, 6, 5, 4, 3, 2, 1, 0] : List (Fin 36)).map (wpiece arg3 harg3 arg4 harg4 x2 x3 k) := by
  unfold tripL_k0_t1 trip_k0_t1
  rfl

/-- So every store of trip `k` restricts `WB`. -/
theorem trip_good (k0_h1 : k0_cond1 i = 1#1) (k : Fin k0_t1_loop.trips) :
    ∀ p ∈ tripL_k0_t1 (F := Ideal) Variants.none c none i arg1 harg1 arg2 harg2 arg3 harg3 arg4 harg4 arg5 harg5 arg6 harg6 arg7 harg7 arg8 harg8 k0_h1 (harg3.unread x2) (harg4.unread x3) k, Good (WB x2 x3) p := by
  rw [trip_pieces]
  intro p hp
  obtain ⟨n, -, rfl⟩ := List.mem_map.1 hp
  exact good_w _ harg3 _ harg4 x2 x3 k.val n.val _ (trip_lt k) n.isLt rfl _ _ _ (scaleAt_eq k n.val) (blockAt_eq k n.val) (blockAt_eq k n.val) _ _ _ _

/-- So does every piece of the trips before `n`. -/
theorem loop_good (k0_h1 : k0_cond1 i = 1#1) : ∀ n : ℕ,
    ∀ p ∈ pb_k0_t1 (F := Ideal) Variants.none c none i arg1 harg1 arg2 harg2 arg3 harg3 arg4 harg4 arg5 harg5 arg6 harg6 arg7 harg7 arg8 harg8 k0_h1 (harg3.unread x2) (harg4.unread x3) n, Good (WB x2 x3) p
  | 0 => fun _ h => nomatch h
  | n + 1 => fun p hp => by
    have ih := loop_good k0_h1 n
    by_cases hn : n < k0_t1_loop.trips
    · rw [show n + 1 = (⟨n, hn⟩ : Fin k0_t1_loop.trips).val + 1 from rfl, pb_k0_t1_succ] at hp
      rcases List.mem_append.1 hp with h | h
      · exact trip_good c i arg1 harg1 arg2 harg2 arg3 harg3 arg4 harg4 arg5 harg5 arg6 harg6 arg7 harg7 arg8 harg8 x2 x3 k0_h1 ⟨n, hn⟩ p h
      · exact ih p h
    · rw [pb_k0_t1.eq_2] at hp
      unfold pb_k0_t1Step at hp
      rw [dif_neg hn] at hp
      exact ih p hp

end Cert.KernelIdeal.Tiles

end
-- ==== Proof.ResultTiles.lean ====
/-
  The stores of one grid point into the scratch of scaled input codes and into the result's block, each as one list of
  tiles over the tile's number, and that the body's run finds exactly these lists, at the first point and at the others.
-/
module

public import proofs.«01_k».proof.Proof.Gen.KernelIdeal.Frame
public import proofs.«01_k».proof.Proof.WeightTiles

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-! ## The scratch of scaled input codes -/

section Input
variable (c : Dev nD)
  (arg1 : Memref sig .tc .vmem S512x3456 .fp8e4m3) (harg1 : arg1.IsWhole)
  (arg2 : Memref sig .tc .vmem S512x27 .f32) (harg2 : arg2.IsWhole)
  (arg8 : Memref sig .tc .vmem S512x3328 .bf16)
  (x0 : Vec Ideal S512x3456 .fp8e4m3) (x1 : Vec Ideal S512x27 .f32)

/-- The store of group `g`'s scaled codes. -/
def xpiece (g : Fin 26) : View.Piece (Elt Ideal) S512x3328 .bf16 :=
  ⟨Rect.unit (s := S512x3328) ![0, 128 * g.val] ![512, 128] (fun a => match a with
      | ⟨0, _⟩ => by show 0 + 512 ≤ 512; omega
      | ⟨1, _⟩ => by show 128 * g.val + 128 ≤ 3328; omega),
    xtile (View.readAt (Elt Ideal) arg2.view (Rect.unit (s := S512x27) ![0, 128 * g.val / 128] ![512, 1] (fun a => match a with
        | ⟨0, _⟩ => by show 0 + 512 ≤ 512; omega
        | ⟨1, _⟩ => by show 128 * g.val / 128 + 1 ≤ 27; omega)).toLoadRect (harg2.unread x1))
      (View.readAt (Elt Ideal) arg1.view (Rect.unit (s := S512x3456) ![0, 128 * g.val] ![512, 128] (fun a => match a with
        | ⟨0, _⟩ => by show 0 + 512 ≤ 512; omega
        | ⟨1, _⟩ => by show 128 * g.val + 128 ≤ 3456; omega)).toLoadRect (harg1.unread x0))⟩

/-- Every such store restricts `XB`. -/
theorem xpiece_good (g : Fin 26) : Good (XB x0 x1) (xpiece arg1 harg1 arg2 harg2 x0 x1 g) :=
  good_x arg1 harg1 arg2 harg2 x0 x1 (128 * g.val) (by omega) _ _ _

/-- The stores of a point, last first. -/
def xpieces : List (View.Piece (Elt Ideal) S512x3328 .bf16) :=
  ([25, 24, 23, 22, 21, 20, 19, 18, 17, 16, 15, 14, 13, 12, 11, 10, 9, 8, 7, 6, 5, 4, 3, 2, 1, 0] : List (Fin 26)).map (xpiece arg1 harg1 arg2 harg2 x0 x1)

/-- They tile the scratch. -/
theorem xpieces_cover (y : S512x3328.Idx) : ∃ p ∈ xpieces arg1 harg1 arg2 harg2 x0 x1, y ∈ p.1.set :=
  View.cover_of_tiledL (xpieces arg1 harg1 arg2 harg2 x0 x1) S512x128.size (by sl_kernel_rfl) y

/-- The first point's stores are these. -/
theorem run_A_x : kernelRun0_A.sl.HS1_26 (F := Ideal) c arg1 harg1 arg2 harg2 x0 x1 = xpieces arg1 harg1 arg2 harg2 x0 x1 := rfl

/-- The other points' stores are these. -/
theorem run_B_x : kernelRun0_B.sl.HS1_26 (F := Ideal) c arg1 harg1 arg2 harg2 x0 x1 = xpieces arg1 harg1 arg2 harg2 x0 x1 := rfl

/-- Read back whole, the scratch holds `XB`. -/
theorem xpieces_read (inb : ∀ a, (![0, 0] : Fin 2 → ℕ) a + S512x3328.size a ≤ S512x3328.size a) :
    arg8.view.readCov (xpieces arg1 harg1 arg2 harg2 x0 x1) (Rect.unit (s := S512x3328) ![0, 0] S512x3328.size inb).toLoadRect = XB x0 x1 := by
  rw [View.readCov_eq_canon']
  funext j
  refine (View.canon_apply_of_pieces (XB x0 x1) _ ?_ _ (xpieces_cover arg1 harg1 arg2 harg2 x0 x1 _)).trans ?_
  · intro p hp
    obtain ⟨g, _, rfl⟩ := List.mem_map.1 hp
    exact xpiece_good arg1 harg1 arg2 harg2 x0 x1 g
  · refine congrArg (XB x0 x1) (ext2 _ _ ?_ ?_)
    · show 0 + 1 * (j 0).val = (j 0).val; omega
    · show 0 + 1 * (j 1).val = (j 1).val; omega

end Input

/-! ## The result tiles -/

section Output
variable (c : Dev nD) (i : grid0.Coords)
  (arg1 : Memref sig .tc .vmem S512x3456 .fp8e4m3) (harg1 : arg1.IsWhole)
  (arg2 : Memref sig .tc .vmem S512x27 .f32) (harg2 : arg2.IsWhole)
  (arg3 : Memref sig .tc .vmem S3456x4608 .fp8e4m3) (harg3 : arg3.IsWhole)
  (arg4 : Memref sig .tc .smem S27x36 .f32) (harg4 : arg4.IsWhole)
  (arg5 : Memref sig .tc .vmem S1x4608 .bf16) (harg5 : arg5.IsWhole)
  (arg6 : Memref sig .tc .vmem S512x4608 .bf16) (harg6 : arg6.IsWhole)
  (arg7 : Memref sig .tc .vmem S3328x4608 .bf16) (harg7 : arg7.IsWhole)
  (arg8 : Memref sig .tc .vmem S512x3328 .bf16) (harg8 : arg8.IsWhole)
  (x0 : Vec Ideal S512x3456 .fp8e4m3) (x1 : Vec Ideal S512x27 .f32) (x2 : Vec Ideal S3456x4608 .fp8e4m3) (x3 : Vec Ideal S27x36 .f32) (x4 : Vec Ideal S1x4608 .bf16)

/-- The store of the result's tile `n`, from what holds the scaled input codes (`xb`) and the scaled weight codes of the
    nine blocks of 512 columns (`wb`). -/
def opiece (xb : Vec Ideal S512x3328 .bf16) (wb : Fin 9 → Vec Ideal S3328x512 .bf16) (n : Fin 36) : View.Piece (Elt Ideal) S512x4608 .bf16 :=
  ⟨Rect.unit (s := S512x4608) ![0, 128 * n.val] ![512, 128] (fun a => match a with
      | ⟨0, _⟩ => by show 0 + 512 ≤ 512; omega
      | ⟨1, _⟩ => by show 128 * n.val + 128 ≤ 4608; omega),
    otile (128 * n.val % 512) ⟨rfl, fun a => match a with
        | ⟨0, _⟩ => by show 0 + 512 ≤ 512; omega
        | ⟨1, _⟩ => by show 128 * n.val % 512 + 128 ≤ 512; omega⟩ xb (wb ⟨128 * n.val / 512, by omega⟩)
      (View.readAt (Elt Ideal) arg1.view (Rect.unit (s := S512x3456) ![0, 3328] ![512, 128] inb_S512x3456_S512x128_0_3328).toLoadRect (harg1.unread x0))
      (View.readAt (Elt Ideal) arg3.view (Rect.unit (s := S3456x4608) ![3328, 512 * (128 * n.val / 512)] ![128, 512] (fun a => match a with
        | ⟨0, _⟩ => by show 3328 + 128 ≤ 3456; omega
        | ⟨1, _⟩ => by show 512 * (128 * n.val / 512) + 512 ≤ 4608; omega)).toLoadRect (harg3.unread x2))
      (View.readAt (Elt Ideal) arg2.view (Rect.unit (s := S512x27) ![0, 26] ![512, 1] inb_S512x27_S512x1_0_26).toLoadRect (harg2.unread x1))
      (View.readAt (Elt Ideal) arg4.view (Rect.unit (s := S27x36) ![26, 128 * n.val / 128] ![1, 1] (fun a => match a with
        | ⟨0, _⟩ => by show 26 + 1 ≤ 27; omega
        | ⟨1, _⟩ => by show 128 * n.val / 128 + 1 ≤ 36; omega)).toLoadRect (harg4.unread x3) (Shape.Idx.first (by show 0 < (⟨2, ![1, 1]⟩ : Shape).numel; decide)))
      (View.readAt (Elt Ideal) arg5.view (Rect.unit (s := S1x4608) ![0, 128 * n.val] ![1, 128] (fun a => match a with
        | ⟨0, _⟩ => by show 0 + 1 ≤ 1; omega
        | ⟨1, _⟩ => by show 128 * n.val + 128 ≤ 4608; omega)).toLoadRect (harg5.unread x4))⟩

/-- Such a store restricts `OB` when `xb` holds `XB` and `wb` the columns of `W`. -/
theorem opiece_good (W : Vec Ideal S3328x4608 .bf16) (xb : Vec Ideal S512x3328 .bf16) (wb : Fin 9 → Vec Ideal S3328x512 .bf16) (hxb : xb = XB x0 x1)
    (hwb : ∀ (q : Fin 9) (k : Fin 3328) (l : Fin 512), wb q (ix2 k l) = W (ix2 k (⟨512 * q.val + l.val, by omega⟩ : Fin 4608))) (n : Fin 36) :
    Good (OB x0 x1 x2 x3 x4 W) (opiece arg1 harg1 arg2 harg2 arg3 harg3 arg4 harg4 arg5 harg5 x0 x1 x2 x3 x4 xb wb n) :=
  good_o arg1 harg1 arg2 harg2 arg3 harg3 arg4 harg4 arg5 harg5 x0 x1 x2 x3 x4 W xb (wb ⟨128 * n.val / 512, by omega⟩) (128 * n.val) (by omega) hxb
    (fun k l hl => hwb ⟨128 * n.val / 512, by omega⟩ k l) _ _ _ _ _ _ _ _

/-- The stores of a point, last first. -/
def opieces (xb : Vec Ideal S512x3328 .bf16) (wb : Fin 9 → Vec Ideal S3328x512 .bf16) : List (View.Piece (Elt Ideal) S512x4608 .bf16) :=
  ([35, 34, 33, 32, 31, 30, 29, 28, 27, 26, 25, 24, 23, 22, 21, 20, 19, 18, 17, 16, 15, 14, 13, 12, 11, 10, 9, 8, 7, 6, 5, 4, 3, 2, 1, 0] : List (Fin 36)).map (opiece arg1 harg1 arg2 harg2 arg3 harg3 arg4 harg4 arg5 harg5 x0 x1 x2 x3 x4 xb wb)

/-- Columns `512 q …` of the scratch of scaled weight codes, as a rectangle. -/
def wrect (q : Fin 9) : Rect S3328x4608 := Rect.unit (s := S3328x4608) ![0, 512 * q.val] ![3328, 512] (fun a => match a with
  | ⟨0, _⟩ => by show 0 + 3328 ≤ 3328; omega
  | ⟨1, _⟩ => by show 512 * q.val + 512 ≤ 4608; omega)

/-- The first point's stores are these, the scaled weight codes read back from what its loop stored. -/
theorem run_A_o (hc0 : cond0_0 i) :
    (kernelRun0_A (F := Ideal) c i arg1 harg1 arg2 harg2 arg3 harg3 arg4 harg4 arg5 harg5 arg6 harg6 arg7 harg7 arg8 harg8 hc0 x0 x1 x2 x3 x4).1
      = opieces arg1 harg1 arg2 harg2 arg3 harg3 arg4 harg4 arg5 harg5 x0 x1 x2 x3 x4
          (arg8.view.readCov (xpieces arg1 harg1 arg2 harg2 x0 x1) (Rect.unit (s := S512x3328) ![0, 0] S512x3328.size inb_S512x3328_S512x3328_0_0).toLoadRect)
          (fun q => arg7.view.readCov (kernelRun0_A (F := Ideal) c i arg1 harg1 arg2 harg2 arg3 harg3 arg4 harg4 arg5 harg5 arg6 harg6 arg7 harg7 arg8 harg8 hc0 x0 x1 x2 x3 x4).2.1 (wrect q).toLoadRect) := rfl

/-- The other points' stores are these, the scaled weight codes read from what the scratch holds. -/
theorem run_B_o (hc0 : ¬cond0_0 i) (xs0 : Vec Ideal S3328x4608 .bf16) :
    (kernelRun0_B (F := Ideal) c i arg1 harg1 arg2 harg2 arg3 harg3 arg4 harg4 arg5 harg5 arg6 harg6 arg7 harg7 arg8 harg8 hc0 x0 x1 x2 x3 x4 xs0).1
      = opieces arg1 harg1 arg2 harg2 arg3 harg3 arg4 harg4 arg5 harg5 x0 x1 x2 x3 x4
          (arg8.view.readCov (xpieces arg1 harg1 arg2 harg2 x0 x1) (Rect.unit (s := S512x3328) ![0, 0] S512x3328.size inb_S512x3328_S512x3328_0_0).toLoadRect)
          (fun q => View.readAt (Elt Ideal) arg7.view (wrect q).toLoadRect (harg7.unread xs0)) := rfl

end Output

end Cert.KernelIdeal.Tiles

end
-- ==== Proof.Blocks.lean ====
/-
  What one grid point leaves: the scratch of scaled weight codes at `WB` after the first point, and the result's block at
  `OB` after every point.
-/
module

public import proofs.«01_k».proof.Proof.Gen.KernelIdeal.Frame
public import proofs.«01_k».proof.Proof.ResultTiles

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (c : Dev nD) (i : grid0.Coords)
  (arg1 : Memref sig .tc .vmem S512x3456 .fp8e4m3) (harg1 : arg1.IsWhole)
  (arg2 : Memref sig .tc .vmem S512x27 .f32) (harg2 : arg2.IsWhole)
  (arg3 : Memref sig .tc .vmem S3456x4608 .fp8e4m3) (harg3 : arg3.IsWhole)
  (arg4 : Memref sig .tc .smem S27x36 .f32) (harg4 : arg4.IsWhole)
  (arg5 : Memref sig .tc .vmem S1x4608 .bf16) (harg5 : arg5.IsWhole)
  (arg6 : Memref sig .tc .vmem S512x4608 .bf16) (harg6 : arg6.IsWhole)
  (arg7 : Memref sig .tc .vmem S3328x4608 .bf16) (harg7 : arg7.IsWhole)
  (arg8 : Memref sig .tc .vmem S512x3328 .bf16) (harg8 : arg8.IsWhole)
  (x0 : Vec Ideal S512x3456 .fp8e4m3) (x1 : Vec Ideal S512x27 .f32) (x2 : Vec Ideal S3456x4608 .fp8e4m3) (x3 : Vec Ideal S27x36 .f32) (x4 : Vec Ideal S1x4608 .bf16)

/-- What the first point leaves in the scratch of scaled weight codes: `WB`. -/
theorem sout_A (hc0 : cond0_0 i) : sout0_A_0 (F := Ideal) c i arg1 harg1 arg2 harg2 arg3 harg3 arg4 harg4 arg5 harg5 arg6 harg6 arg7 harg7 arg8 harg8 hc0 x0 x1 x2 x3 x4 = WB x2 x3 := by
  unfold sout0_A_0
  rw [View.read_writes_junk_eq_canon]
  funext y
  exact View.canon_apply_of_pieces (WB x2 x3) _ (loop_good c i arg1 harg1 arg2 harg2 arg3 harg3 arg4 harg4 arg5 harg5 arg6 harg6 arg7 harg7 arg8 harg8 x2 x3 hc0 _) y (scover0_A_0 c i arg1 harg1 arg2 harg2 arg3 harg3 arg4 harg4 arg5 harg5 arg6 harg6 arg7 harg7 arg8 harg8 hc0 x0 x1 x2 x3 x4 y)

/-- Columns `512 q …` of the scaled weight codes, read back from the first point's stores. -/
theorem wread_A (hc0 : cond0_0 i) (q : Fin 9) (k : Fin 3328) (l : Fin 512) :
    arg7.view.readCov (kernelRun0_A (F := Ideal) c i arg1 harg1 arg2 harg2 arg3 harg3 arg4 harg4 arg5 harg5 arg6 harg6 arg7 harg7 arg8 harg8 hc0 x0 x1 x2 x3 x4).2.1 (wrect q).toLoadRect (ix2 k l)
      = WB x2 x3 (ix2 k (⟨512 * q.val + l.val, by omega⟩ : Fin 4608)) := by
  rw [View.readCov_eq_canon']
  refine (View.canon_apply_of_pieces (WB x2 x3) _ (loop_good c i arg1 harg1 arg2 harg2 arg3 harg3 arg4 harg4 arg5 harg5 arg6 harg6 arg7 harg7 arg8 harg8 x2 x3 hc0 _) _ (scover0_A_0 c i arg1 harg1 arg2 harg2 arg3 harg3 arg4 harg4 arg5 harg5 arg6 harg6 arg7 harg7 arg8 harg8 hc0 x0 x1 x2 x3 x4 _)).trans ?_
  refine congrArg (WB x2 x3) (ext2 _ _ ?_ ?_)
  · show 0 + 1 * k.val = k.val; omega
  · show 512 * q.val + 1 * l.val = 512 * q.val + l.val; omega

/-- Every tile of a point restricts `OB`. -/
theorem opieces_good (W : Vec Ideal S3328x4608 .bf16) (xb : Vec Ideal S512x3328 .bf16) (wb : Fin 9 → Vec Ideal S3328x512 .bf16) (hxb : xb = XB x0 x1)
    (hwb : ∀ (q : Fin 9) (k : Fin 3328) (l : Fin 512), wb q (ix2 k l) = W (ix2 k (⟨512 * q.val + l.val, by omega⟩ : Fin 4608))) :
    ∀ p ∈ opieces arg1 harg1 arg2 harg2 arg3 harg3 arg4 harg4 arg5 harg5 x0 x1 x2 x3 x4 xb wb, Good (OB x0 x1 x2 x3 x4 W) p := by
  intro p hp
  obtain ⟨n, _, rfl⟩ := List.mem_map.1 hp
  exact opiece_good arg1 harg1 arg2 harg2 arg3 harg3 arg4 harg4 arg5 harg5 x0 x1 x2 x3 x4 W xb wb hxb hwb n

/-- What the first point leaves in the result's block. -/
theorem out_A (hc0 : cond0_0 i) : out0_A_5 (F := Ideal) c i arg1 harg1 arg2 harg2 arg3 harg3 arg4 harg4 arg5 harg5 arg6 harg6 arg7 harg7 arg8 harg8 hc0 x0 x1 x2 x3 x4 = OB x0 x1 x2 x3 x4 (WB x2 x3) := by
  unfold out0_A_5
  rw [View.read_writes_junk_eq_canon]
  funext y
  refine View.canon_apply_of_pieces (OB x0 x1 x2 x3 x4 (WB x2 x3)) _ ?_ y (cover0_A_5 c i arg1 harg1 arg2 harg2 arg3 harg3 arg4 harg4 arg5 harg5 arg6 harg6 arg7 harg7 arg8 harg8 hc0 x0 x1 x2 x3 x4 y)
  rw [run_A_o]
  exact opieces_good arg1 harg1 arg2 harg2 arg3 harg3 arg4 harg4 arg5 harg5 x0 x1 x2 x3 x4 (WB x2 x3) _ _
    (xpieces_read arg1 harg1 arg2 harg2 arg8 x0 x1 _) (wread_A c i arg1 harg1 arg2 harg2 arg3 harg3 arg4 harg4 arg5 harg5 arg6 harg6 arg7 harg7 arg8 harg8 x0 x1 x2 x3 x4 hc0)

/-- What any other point leaves in the result's block, when the scratch holds `W`. -/
theorem out_B (hc0 : ¬cond0_0 i) (W : Vec Ideal S3328x4608 .bf16) :
    out0_B_5 (F := Ideal) c i arg1 harg1 arg2 harg2 arg3 harg3 arg4 harg4 arg5 harg5 arg6 harg6 arg7 harg7 arg8 harg8 hc0 x0 x1 x2 x3 x4 W = OB x0 x1 x2 x3 x4 W := by
  unfold out0_B_5
  rw [View.read_writes_junk_eq_canon]
  funext y
  refine View.canon_apply_of_pieces (OB x0 x1 x2 x3 x4 W) _ ?_ y (cover0_B_5 c i arg1 harg1 arg2 harg2 arg3 harg3 arg4 harg4 arg5 harg5 arg6 harg6 arg7 harg7 arg8 harg8 hc0 x0 x1 x2 x3 x4 W y)
  rw [run_B_o]
  refine opieces_good arg1 harg1 arg2 harg2 arg3 harg3 arg4 harg4 arg5 harg5 x0 x1 x2 x3 x4 W _ _
    (xpieces_read arg1 harg1 arg2 harg2 arg8 x0 x1 _) fun q k l => ?_
  refine ld2 arg7 harg7 W _ 0 (512 * q.val) rfl _ _ _ ?_ rfl
  show k.val = 0 + k.val; omega

end Cert.KernelIdeal.Tiles

end
-- ==== Proof.Region.lean ====
/-
  The array that the kernel's region leaves: every block of 512 rows holds `OB` of the rows' codes and scales over the
  scaled weight codes, so the array is one function `RV` of the region's operands.
-/
module

public import proofs.«01_k».proof.Proof.Blocks
public import Idealize.ShloMosaic.Lib.Pipeline.ValueKit

@[expose] public section

set_option maxRecDepth 16384

noncomputable section

namespace Cert.KernelIdeal.Tiles

open Idealize.ShloMosaic Idealize.ShloMosaic.TcCoe Idealize.SL.Sem Cert.KernelIdeal Cert.KernelIdeal.Gen

variable (m : (ℓ : Loc nD τ sig) → Buf (Elt Ideal) ℓ)

/-- The region's result from its operands: the product over the first 26 groups' features of the scaled codes, plus the
    last group's product of codes times its two scales, plus the bias. -/
def RV (X : Vec Ideal S12288x3456 .fp8e4m3) (XS : Vec Ideal S12288x27 .f32) (W : Vec Ideal S3456x4608 .fp8e4m3) (WS : Vec Ideal S27x36 .f32)
    (B : Vec Ideal S1x4608 .bf16) : Vec Ideal S12288x4608 .bf16 := fun y =>
  (∑ k : Fin 3328, (X (ix2 (⟨(y 0).val, (y 0).isLt⟩ : Fin 12288) (⟨k.val, by omega⟩ : Fin 3456))
        * XS (ix2 (⟨(y 0).val, (y 0).isLt⟩ : Fin 12288) (⟨k.val / 128, by omega⟩ : Fin 27)))
      * WB W WS (ix2 k (⟨(y 1).val, (y 1).isLt⟩ : Fin 4608)))
    + (∑ k : Fin 128, X (ix2 (⟨(y 0).val, (y 0).isLt⟩ : Fin 12288) (⟨3328 + k.val, by omega⟩ : Fin 3456))
        * W (ix2 (⟨3328 + k.val, by omega⟩ : Fin 3456) (⟨(y 1).val, (y 1).isLt⟩ : Fin 4608)))
      * (XS (ix2 (⟨(y 0).val, (y 0).isLt⟩ : Fin 12288) (26 : Fin 27))
        * WS (ix2 (26 : Fin 27) (⟨(y 1).val / 128, by have h : (y 1).val < 4608 := (y 1).isLt; omega⟩ : Fin 36)))
    + B (ix2 (0 : Fin 1) (⟨(y 1).val, (y 1).isLt⟩ : Fin 4608))

/-- The block that each window hands a point: the point's rows of the input and of the result, all of the rest. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- Every point is handed the whole array of weight codes. -/
theorem iblk2_eq (c : Dev nD) (t : Fin cfg0.N) : iblk m c 2 t = V m c main_arg2 := by
  funext y
  blk_ext [iblk, idx t]

/-- Every point is handed the whole array of weight scales. -/
theorem iblk3_eq (c : Dev nD) (t : Fin cfg0.N) : iblk m c 3 t = V m c main_arg3 := by
  funext y
  blk_ext [iblk, idx t]

/-- Every point is handed the whole bias row. -/
theorem iblk4_eq (c : Dev nD) (t : Fin cfg0.N) : iblk m c 4 t = V m c main_v2 := by
  funext y
  blk_ext [iblk, idx t]

/-- After every point the scratch holds the scaled weight codes. -/
theorem scratch_eq (c : Dev nD) : ∀ (n : ℕ) (hn : n < cfg0.N), (outsAt0 m c n hn).2 = WB (V m c main_arg2) (V m c main_arg3) := by
  intro n
  induction n with
  | zero =>
    intro hn
    rw [outsAt0_A m c ⟨0, hn⟩ (Nat.zero_mod _)]
    dsimp only
    rw [sout_A, iblk2_eq, iblk3_eq]
  | succ n ih =>
    intro hn
    have hN : cfg0.N = 24 := rfl
    rw [outsAt0_B m c ⟨n + 1, hn⟩ (by show ¬(n + 1) % 24 = 0; omega)]
    exact ih _

/-- After every point the result's block holds `OB` of the point's blocks over the scaled weight codes. -/
theorem out_eq (c : Dev nD) (t : Fin cfg0.N) : (outsAt0 m c t.val t.isLt).1
    = OB (iblk m c 0 t) (iblk m c 1 t) (V m c main_arg2) (V m c main_arg3) (V m c main_v2) (WB (V m c main_arg2) (V m c main_arg3)) := by
  by_cases h0 : t.val % 24 = 0
  · rw [outsAt0_A m c t h0]
    dsimp only
    rw [out_A, iblk2_eq, iblk3_eq, iblk4_eq]
  · rw [outsAt0_B m c t h0]
    dsimp only
    rw [out_B, scratch_eq, iblk2_eq, iblk3_eq, iblk4_eq]

/-- Row `r` of point `t`'s block of codes is row `512 t + r` of the array. -/
theorem iblk0_apply (c : Dev nD) (t : Fin cfg0.N) (r : Fin 512) (k : Fin 3456) (R : Fin 12288) (hR : R.val = t.val * 512 + r.val) :
    iblk m c 0 t (ix2 r k) = V m c main_v0 (ix2 R k) := by
  blk_ext [iblk, idx t]

/-- Row `r` of point `t`'s block of scales is row `512 t + r` of the array. -/
theorem iblk1_apply (c : Dev nD) (t : Fin cfg0.N) (r : Fin 512) (k : Fin 27) (R : Fin 12288) (hR : R.val = t.val * 512 + r.val) :
    iblk m c 1 t (ix2 r k) = V m c main_v1 (ix2 R k) := by
  blk_ext [iblk, idx t]

/-- `OB` of one block's rows is `RV` of the array's. -/
theorem OB_eq_RV (x0 : Vec Ideal S512x3456 .fp8e4m3) (x1 : Vec Ideal S512x27 .f32) (X : Vec Ideal S12288x3456 .fp8e4m3) (XS : Vec Ideal S12288x27 .f32)
    (W : Vec Ideal S3456x4608 .fp8e4m3) (WS : Vec Ideal S27x36 .f32) (B : Vec Ideal S1x4608 .bf16) (r : Fin 512) (R : Fin 12288) (n : Fin 4608)
    (hx0 : ∀ k : Fin 3456, x0 (ix2 r k) = X (ix2 R k)) (hx1 : ∀ k : Fin 27, x1 (ix2 r k) = XS (ix2 R k)) :
    OB x0 x1 W WS B (WB W WS) (ix2 r n) = RV X XS W WS B (ix2 R n) := by
  refine congrArg₂ (· + ·) (congrArg₂ (· + ·) ?_ (congrArg₂ (· * ·) ?_ (congrArg₂ (· * ·) (hx1 _) rfl))) rfl
  · exact Finset.sum_congr rfl fun k _ => congrArg₂ (· * ·) (congrArg₂ (· * ·) (hx0 _) (hx1 _)) rfl
  · exact Finset.sum_congr rfl fun k _ => congrArg₂ (· * ·) (hx0 _) rfl

/-- The array after the region's run: `RV` of the region's operands. -/
theorem region_eq (c : Dev nD) : (dats m 0 c).arrAt 5 cfg0.N
    = RV (V m c main_v0) (V m c main_v1) (V m c main_arg2) (V m c main_arg3) (V m c main_v2) := by
  refine (dats m 0 c).arrAt_eq_of_covers 5 _ (by decide +kernel) fun t hf y => ?_
  blk_simp
  rw [after0_5, out_eq]
  generalize he : ((cfg0.win 5).blk t).view.emb y = z
  have h0 : (z 0).val = t.val * 512 + (y 0).val := by
    rw [← he]; blk_simp [idx t]
  have h1 : (z 1).val = (y 1).val := by
    rw [← he]; blk_simp [idx t]
  have hy : y = ix2 (⟨(y 0).val, (y 0).isLt⟩ : Fin 512) (⟨(y 1).val, (y 1).isLt⟩ : Fin 4608) := ext2 _ _ rfl rfl
  have hz : z = ix2 (⟨(z 0).val, (z 0).isLt⟩ : Fin 12288) (⟨(y 1).val, (y 1).isLt⟩ : Fin 4608) := ext2 _ _ rfl h1
  rw [hy, hz]
  exact OB_eq_RV _ _ _ _ _ _ _ _ _ _ (fun k => iblk0_apply m c t _ k _ h0) (fun k => iblk1_apply m c t _ k _ h0)

end Cert.KernelIdeal.Tiles

end
-- ==== Proof.RefValue.lean ====
/-
  The reference's result, entry by entry: the product of the scaled codes over all 3456 input features, plus the bias.
-/
module

public import proofs.«01_k».proof.Proof.Gen.ReferenceIdeal.Value
public import Idealize.ShloMosaic.Lib.Pointwise

@[expose] public section

set_option maxRecDepth 16384

noncomputable section

namespace Cert.ReferenceIdeal.Entry

open Idealize.ShloMosaic Idealize.ShloMosaic.TcCoe Cert.ReferenceIdeal Cert.ReferenceIdeal.Gen

/-- The reference's result at an index: every code times its group's scale, summed over the features, plus the bias. -/
theorem pay_apply (a0 : Vec Ideal S2x6144x3456 .fp8e4m3) (a1 : Vec Ideal S2x6144x27 .f32) (a2 : Vec Ideal S3456x4608 .fp8e4m3)
    (a3 : Vec Ideal S27x36 .f32) (a4 : Vec Ideal S4608 .bf16) (b : Fin 2) (s : Fin 6144) (n : Fin 4608) :
    k0_pay1 a0 a1 a2 a3 a4 (ix3 b s n)
      = (∑ k : Fin 3456, (a0 (ix3 b s k) * a1 (ix3 b s (⟨k.val / 128, by omega⟩ : Fin 27)))
          * (a2 (ix2 k n) * a3 (ix2 (⟨k.val / 128, by omega⟩ : Fin 27) (⟨n.val / 128, by omega⟩ : Fin 36))))
        + a4 (ix1 n) := by
  pointwise [k0_pay1]

end Cert.ReferenceIdeal.Entry

end
-- ==== Proof.Precondition.lean ====
/-
  The precondition, read: the scales of the last group of both operands are nonnegative and not infinite.
-/
module

public import proofs.«01_k».proof.Pre_last_scales_finite
public import Idealize.ShloMosaic.PureOps.Ideal
public import Idealize.ShloMosaic.Lib.Pointwise

@[expose] public section

set_option maxRecDepth 16384

noncomputable section

namespace Cert.Pre_last_scales_finite

open Idealize.ShloMosaic

/-- The side conditions of the predicate's slices and broadcasts. -/
theorem facts : Facts where
  slices_S2x6144x27_S2x6144x1_0_0_26 := by decide
  slices_S27x36_S1x36_26_0 := by decide
  bcast_S_S2x6144x1 := by decide
  bcast_S_S1x36 := by decide

/-- A comparison that is true, read at the extended reals: `x ≥ 0`. -/
theorem nonneg_of_cmp (x : EReal) (h : FloatOps.cmpf (F := Ideal) (φ := .f32) .oge x (FloatOps.ofBits .f32 0x00000000#32) = 1#1) : 0 ≤ x := by
  have hz : (FloatOps.ofBits .f32 0x00000000#32 : Ideal .f32) = (0 : EReal) := by
    pointwise
  rw [hz] at h
  by_contra hx
  have : FloatOps.cmpf (F := Ideal) (φ := .f32) .oge x (0 : EReal) = 0#1 := by
    show BitVec.ofBool (decide ((0 : EReal) ≤ x)) = 0#1
    rw [decide_eq_false hx]; rfl
  rw [this] at h
  exact absurd h (by decide)

/-- A comparison that is true, read at the extended reals: `x < ∞`. -/
theorem ne_top_of_cmp (x : EReal) (h : FloatOps.cmpf (F := Ideal) (φ := .f32) .olt x (FloatOps.ofBits .f32 0x7F800000#32) = 1#1) : x ≠ ⊤ := by
  have hz : (FloatOps.ofBits .f32 0x7F800000#32 : Ideal .f32) = (⊤ : EReal) := by
    show Ideal.ofBits .f32 0x7F800000#32 = _
    simp [Ideal.ofBits, Ideal.ieee]
  rw [hz] at h
  rintro rfl
  have : FloatOps.cmpf (F := Ideal) (φ := .f32) .olt (⊤ : EReal) (⊤ : EReal) = 0#1 := by
    show BitVec.ofBool (decide ((⊤ : EReal) < ⊤)) = 0#1
    rw [decide_eq_false (lt_irrefl _)]; rfl
  rw [this] at h
  exact absurd h (by decide)

/-- The precondition, read: the last group's scales of every row and of every column block lie in `[0, ⊤)`. -/
theorem read [Facts] (a0 : FVec Ideal S2x6144x3456 .fp8e4m3) (a1 : FVec Ideal S2x6144x27 .f32) (a2 : FVec Ideal S3456x4608 .fp8e4m3) (a3 : FVec Ideal S27x36 .f32)
    (a4 : FVec Ideal S4608 .bf16) (h1 : (fn (F := Ideal) a0 a1 a2 a3 a4).1 = fun _ => 1#1) (h2 : (fn (F := Ideal) a0 a1 a2 a3 a4).2.1 = fun _ => 1#1)
    (h3 : (fn (F := Ideal) a0 a1 a2 a3 a4).2.2.1 = fun _ => 1#1) (h4 : (fn (F := Ideal) a0 a1 a2 a3 a4).2.2.2 = fun _ => 1#1) :
    (∀ (b : Fin 2) (s : Fin 6144), (0 : EReal) ≤ a1 (ix3 b s (26 : Fin 27)) ∧ a1 (ix3 b s (26 : Fin 27)) ≠ (⊤ : EReal))
      ∧ ∀ l : Fin 36, (0 : EReal) ≤ a3 (ix2 (26 : Fin 27) l) ∧ a3 (ix2 (26 : Fin 27) l) ≠ (⊤ : EReal) := by
  have e1 : ∀ (b : Fin 2) (s : Fin 6144), extractStridedSlice S2x6144x1 ![0, 0, 26] a1 Facts.slices_S2x6144x27_S2x6144x1_0_0_26 (ix3 b s (0 : Fin 1)) = a1 (ix3 b s (26 : Fin 27)) := by
    intro b s
    pointwise
  have e3 : ∀ l : Fin 36, extractStridedSlice S1x36 ![26, 0] a3 Facts.slices_S27x36_S1x36_26_0 (ix2 (0 : Fin 1) l) = a3 (ix2 (26 : Fin 27) l) := by
    intro l
    pointwise
  refine ⟨fun b s => ⟨nonneg_of_cmp _ ?_, ne_top_of_cmp _ ?_⟩, fun l => ⟨nonneg_of_cmp _ ?_, ne_top_of_cmp _ ?_⟩⟩
  · rw [← e1]; exact congrFun h1 (ix3 b s (0 : Fin 1))
  · rw [← e1]; exact congrFun h2 (ix3 b s (0 : Fin 1))
  · rw [← e3]; exact congrFun h3 (ix2 (0 : Fin 1) l)
  · rw [← e3]; exact congrFun h4 (ix2 (0 : Fin 1) l)

end Cert.Pre_last_scales_finite

end
-- ==== Proof.Meet.lean ====
/-
  The two runs meet: the kernel's result array is `RV` of the reshaped arguments, reshaped back; under the precondition
  its entries are the reference's.
-/
module

public import proofs.«01_k».proof.Defs
public import proofs.«01_k».proof.Proof.Algebra
public import proofs.«01_k».proof.Proof.Region
public import proofs.«01_k».proof.Proof.RefValue
public import proofs.«01_k».proof.Proof.Precondition
public import Idealize.ShloMosaic.Lib.Claim

@[expose] public section

set_option maxRecDepth 16384

noncomputable section

namespace Cert.Meet

open Idealize.ShloMosaic Idealize.ShloMosaic.TcCoe Idealize.SL.Sem Cert.KernelIdeal Cert.KernelIdeal.Gen Cert.KernelIdeal.Tiles

/-- The kernel's result from its arguments. -/
def KV (a0 : Vec Ideal S2x6144x3456 .fp8e4m3) (a1 : Vec Ideal S2x6144x27 .f32) (a2 : Vec Ideal S3456x4608 .fp8e4m3) (a3 : Vec Ideal S27x36 .f32)
    (a4 : Vec Ideal S4608 .bf16) : Vec Ideal S2x6144x4608 .bf16 :=
  shapeCast S2x6144x4608 (RV (shapeCast S12288x3456 a0 shapeCasts_S2x6144x3456_S12288x3456) (shapeCast S12288x27 a1 shapeCasts_S2x6144x27_S12288x27) a2 a3
    (shapeCast S1x4608 a4 shapeCasts_S4608_S1x4608)) shapeCasts_S12288x4608_S2x6144x4608

/-- The kernel's result is the reference's, when the last group's scales lie in `[0, ⊤)`. -/
theorem KV_eq (a0 : Vec Ideal S2x6144x3456 .fp8e4m3) (a1 : Vec Ideal S2x6144x27 .f32) (a2 : Vec Ideal S3456x4608 .fp8e4m3) (a3 : Vec Ideal S27x36 .f32)
    (a4 : Vec Ideal S4608 .bf16)
    (hx : ∀ (b : Fin 2) (s : Fin 6144), (0 : EReal) ≤ a1 (ix3 b s (26 : Fin 27)) ∧ a1 (ix3 b s (26 : Fin 27)) ≠ (⊤ : EReal))
    (hw : ∀ l : Fin 36, (0 : EReal) ≤ a3 (ix2 (26 : Fin 27) l) ∧ a3 (ix2 (26 : Fin 27) l) ≠ (⊤ : EReal)) :
    KV a0 a1 a2 a3 a4 = Cert.ReferenceIdeal.Value.G5 a0 a1 a2 a3 a4 := by
  funext y
  obtain ⟨b, s, n, rfl⟩ : ∃ (b : Fin 2) (s : Fin 6144) (n : Fin 4608), y = ix3 b s n := ⟨y 0, y 1, y 2, by
    funext x; match x with
    | ⟨0, _⟩ => rfl
    | ⟨1, _⟩ => rfl
    | ⟨2, _⟩ => rfl⟩
  refine Eq.trans ?_ (Cert.ReferenceIdeal.Entry.pay_apply a0 a1 a2 a3 a4 b s n).symm
  rw [Cert.KernelIdeal.Algebra.sum_split]
  have hR : b.val * 6144 + s.val < 12288 := by omega
  have h0 : ∀ k : Fin 3456, shapeCast S12288x3456 a0 shapeCasts_S2x6144x3456_S12288x3456 (ix2 (⟨b.val * 6144 + s.val, hR⟩ : Fin 12288) k) = a0 (ix3 b s k) := by
    intro k
    pointwise
  have h1 : ∀ k : Fin 27, shapeCast S12288x27 a1 shapeCasts_S2x6144x27_S12288x27 (ix2 (⟨b.val * 6144 + s.val, hR⟩ : Fin 12288) k) = a1 (ix3 b s k) := by
    intro k
    pointwise
  have h4 : shapeCast S1x4608 a4 shapeCasts_S4608_S1x4608 (ix2 (0 : Fin 1) n) = a4 (ix1 n) := by
    pointwise
  have h5 : ∀ X : Vec Ideal S12288x4608 .bf16, shapeCast S2x6144x4608 X shapeCasts_S12288x4608_S2x6144x4608 (ix3 b s n) = X (ix2 (⟨b.val * 6144 + s.val, hR⟩ : Fin 12288) n) := by
    intro X
    pointwise
  rw [KV, h5]
  refine congrArg₂ (· + ·) (congrArg₂ (· + ·) (Finset.sum_congr rfl fun k _ => ?_) ?_) h4
  · exact congrArg₂ (· * ·) (congrArg₂ (· * ·) (h0 _) (h1 _)) rfl
  · refine (congrArg₂ (· * ·) (Finset.sum_congr rfl fun k _ => congrArg₂ (· * ·) (h0 _) rfl) (congrArg₂ (· * ·) (h1 _) rfl)).trans ?_
    refine (Cert.KernelIdeal.Algebra.sum_scale _ _ _ _ (hx b s).1 (hx b s).2 (hw _).1 (hw _).2).trans ?_
    refine Finset.sum_congr rfl fun k _ => ?_
    have hk : (⟨(3328 + k.val) / 128, by omega⟩ : Fin 27) = 26 := Fin.ext (by show (3328 + k.val) / 128 = 26; omega)
    dsimp only
    rw [hk]
    rfl

/-- The region finds the input codes with the batch merged into the rows. -/
theorem V_v0 (m : (ℓ : Loc nD τ sig) → Buf (Elt Ideal) ℓ) (c : Dev nD) :
    V m c main_v0 = shapeCast S12288x3456 (m ((c : Thread nD τ).loc main_arg0)) shapeCasts_S2x6144x3456_S12288x3456 := by
  entry_read
  rfl

/-- The region finds the input scales with the batch merged into the rows. -/
theorem V_v1 (m : (ℓ : Loc nD τ sig) → Buf (Elt Ideal) ℓ) (c : Dev nD) :
    V m c main_v1 = shapeCast S12288x27 (m ((c : Thread nD τ).loc main_arg1)) shapeCasts_S2x6144x27_S12288x27 := by
  entry_read
  rfl

/-- The region finds the bias as one row. -/
theorem V_v2 (m : (ℓ : Loc nD τ sig) → Buf (Elt Ideal) ℓ) (c : Dev nD) :
    V m c main_v2 = shapeCast S1x4608 (m ((c : Thread nD τ).loc main_arg4)) shapeCasts_S4608_S1x4608 := by
  entry_read
  rfl

/-- The line after the region reshapes the region's array into the result. -/
theorem tail_eq (m : (ℓ : Loc nD τ sig) → Buf (Elt Ideal) ℓ) (c : Dev nD) :
    Pipeline.afterTail₀ cfgs (dats m) 0 (V0 m) [hostOps1] c main_v4
      = shapeCast S2x6144x4608 ((dats m 0 c).arrAt 5 cfg0.N) shapeCasts_S12288x4608_S2x6144x4608 := by
  have hA : Pipeline.withArrays (cfgs 0).spec c (V0 m c) (fun w => (dats m 0 c).arrAt w (cfgs 0).N) (Proc.devRef .tc main_v3) = (dats m 0 c).arrAt 5 cfg0.N :=
    Pipeline.withArrays_arr _ launch0.win.arr_inj c (V0 m c) (fun w => (dats m 0 c).arrAt w (cfgs 0).N) 5
  unfold Pipeline.afterTail₀
  simp only [List.flatten_cons, List.flatten_nil, List.append_nil, StableHlo.after_cons, StableHlo.after_nil]
  rw [StableHlo.reshape_result, hA]
  rfl

/-- The kernel's run: the result array ends at `KV` of the arguments, the arguments unchanged. -/
theorem run_kernel (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v4) = KV (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from run_main m g & unchanged m g
  rw [tail_eq, region_eq, V_v0, V_v1, V_v2, V_main_arg2, V_main_arg3]
  rfl

/-- The claim on values: under the precondition both runs end with one result, the arguments unchanged. -/
theorem algebraic : Cert.algebraic_KernelIdeal_ReferenceIdeal_pre_last_scales_finite (hKernelIdeal := Cert.KernelIdeal.Gen.facts)
    (hReferenceIdeal := Cert.ReferenceIdeal.Gen.facts) (hPre_last_scales_finite := Cert.Pre_last_scales_finite.facts) := by
  intro m g m' g' hpre hagree
  refine ⟨_, run_kernel m g, ?_⟩
  run_from Cert.ReferenceIdeal.Value.run m' g'
  letI : Cert.Pre_last_scales_finite.Facts := Cert.Pre_last_scales_finite.facts
  obtain ⟨p1, p2, p3, p4⟩ := hpre c
  have h := Cert.Pre_last_scales_finite.read _ _ _ _ _ p1 p2 p3 p4
  exact (KV_eq _ _ _ _ _ h.1 h.2).symm

end Cert.Meet

end
-- ==== Proof.lean ====
/-
  The proof of `Cert.Claim` (Defs.lean): the three programs' frames, which the modules under Proof/Gen/ prove; the
  idealization of the kernel; and the value claim, which Proof/Meet.lean proves.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The certificate: the programs' frames, the kernel's idealization, and the value claim. -/
theorem claim : Cert.Claim := ⟨Cert.Kernel.Gen.facts, Cert.KernelIdeal.Gen.facts, Cert.ReferenceIdeal.Gen.facts, Cert.Pre_last_scales_finite.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Meet.algebraic⟩

end Cert.Proof

end
